-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S2x16x4096x64 : Shape := ⟨4, ![2, 16, 4096, 64]⟩
abbrev S16x512x64 : Shape := ⟨3, ![16, 512, 64]⟩
abbrev S_ : Shape := ⟨0, ![]⟩

class Facts : Prop where
  bcast_S_S2x16x4096x64 : S_.BroadcastsInDim S2x16x4096x64 (![] : Fin 0 → Fin S2x16x4096x64.rank)
  reducesTo_S2x16x4096x64_S_d0_1_2_3 : S2x16x4096x64.ReducesTo [0, 1, 2, 3] S_
  h_S_ : 0 < S_.numel
  bcast_S_S16x512x64 : S_.BroadcastsInDim S16x512x64 (![] : Fin 0 → Fin S16x512x64.rank)
  reducesTo_S16x512x64_S_d0_1_2 : S16x512x64.ReducesTo [0, 1, 2] S_

variable [Facts]

def fn {F : FTy → Type} [FloatOps F] (main_arg0 : FVec F S2x16x4096x64 .f32) (main_arg1 : FVec F S16x512x64 .f32) : IVec S_ 1 :=
  let main_v0 : FVec F S2x16x4096x64 .f32 := Host.absf main_arg0
  let main_cst : FVec F S_ .f32 := constant S_ .f32 0x7F800000#32
  let main_v1 : FVec F S2x16x4096x64 .f32 := broadcastInDim S2x16x4096x64 ![] bcast_S_S2x16x4096x64 main_cst
  let main_v2 : IVec S2x16x4096x64 1 := cmpf .olt main_v0 main_v1
  let main_c : IVec S_ 1 := constantI S_ 1 1#1
  let main_v3 : IVec S_ 1 := (fun x v => Host.reduce IntOp.andi x v reducesTo_S2x16x4096x64_S_d0_1_2_3 h_S_) main_v2 main_c
  let main_v4 : FVec F S16x512x64 .f32 := Host.absf main_arg1
  let main_cst_0 : FVec F S_ .f32 := constant S_ .f32 0x7F800000#32
  let main_v5 : FVec F S16x512x64 .f32 := broadcastInDim S16x512x64 ![] bcast_S_S16x512x64 main_cst_0
  let main_v6 : IVec S16x512x64 1 := cmpf .olt main_v4 main_v5
  let main_c_1 : IVec S_ 1 := constantI S_ 1 1#1
  let main_v7 : IVec S_ 1 := (fun x v => Host.reduce IntOp.andi x v reducesTo_S16x512x64_S_d0_1_2 h_S_) main_v6 main_c_1
  let main_v8 : IVec S_ 1 := andi main_v3 main_v7
  main_v8
-- ==== KernelIdeal.lean ====
abbrev S2x16x4096x64 : Shape := ⟨4, ![2, 16, 4096, 64]⟩
abbrev S16x512x64 : Shape := ⟨3, ![16, 512, 64]⟩
abbrev S2x16x64x4096 : Shape := ⟨4, ![2, 16, 64, 4096]⟩
abbrev S16x64x512 : Shape := ⟨3, ![16, 64, 512]⟩
abbrev S2x16x4096x512 : Shape := ⟨4, ![2, 16, 4096, 512]⟩
abbrev S16x2x4096 : Shape := ⟨3, ![16, 2, 4096]⟩
abbrev S16x1x512 : Shape := ⟨3, ![16, 1, 512]⟩
abbrev S1x1x1 : Shape := ⟨3, ![1, 1, 1]⟩
abbrev S1x2x64x4096 : Shape := ⟨4, ![1, 2, 64, 4096]⟩
abbrev S2x64x512 : Shape := ⟨3, ![2, 64, 512]⟩
abbrev S1x2x4096x512 : Shape := ⟨4, ![1, 2, 4096, 512]⟩
abbrev S1x2x4096 : Shape := ⟨3, ![1, 2, 4096]⟩
abbrev S2x1x512 : Shape := ⟨3, ![2, 1, 512]⟩
abbrev S1x1 : Shape := ⟨2, ![1, 1]⟩
abbrev S1x1x64x4096 : Shape := ⟨4, ![1, 1, 64, 4096]⟩
abbrev S64x4096 : Shape := ⟨2, ![64, 4096]⟩
abbrev S1x64x512 : Shape := ⟨3, ![1, 64, 512]⟩
abbrev S64x512 : Shape := ⟨2, ![64, 512]⟩
abbrev S4096 : Shape := ⟨1, ![4096]⟩
abbrev S1x4096 : Shape := ⟨2, ![1, 4096]⟩
abbrev S4096x512 : Shape := ⟨2, ![4096, 512]⟩
abbrev S1x1x4096x512 : Shape := ⟨4, ![1, 1, 4096, 512]⟩
abbrev S512x4096 : Shape := ⟨2, ![512, 4096]⟩
abbrev S1x1x4096 : Shape := ⟨3, ![1, 1, 4096]⟩
abbrev S512 : Shape := ⟨1, ![512]⟩
abbrev S1x1x512 : Shape := ⟨3, ![1, 1, 512]⟩
abbrev S1 : Shape := ⟨1, ![1]⟩
abbrev S8192 : Shape := ⟨1, ![8192]⟩
abbrev S131072 : Shape := ⟨1, ![131072]⟩
abbrev S32x16 : Shape := ⟨2, ![32, 16]⟩
abbrev S16 : Shape := ⟨1, ![16]⟩
abbrev S_ : Shape := ⟨0, ![]⟩
abbrev S1x16 : Shape := ⟨2, ![1, 16]⟩

abbrev nBuf : Table → Nat
  | .hbm => 17
  | .local .tc .vmem => 11
  | .local .scVector .vmem => 3
  | _ => 0

abbrev bufTy : (tb : Table) → Fin (nBuf tb) → BufTy
  | .hbm, ⟨0, _⟩ => ⟨S2x16x4096x64, .f32⟩
  | .hbm, ⟨1, _⟩ => ⟨S16x512x64, .f32⟩
  | .hbm, ⟨2, _⟩ => ⟨S2x16x64x4096, .f32⟩
  | .hbm, ⟨3, _⟩ => ⟨S16x64x512, .f32⟩
  | .hbm, ⟨4, _⟩ => ⟨S2x16x4096x512, .f32⟩
  | .hbm, ⟨5, _⟩ => ⟨S16x2x4096, .i32⟩
  | .hbm, ⟨6, _⟩ => ⟨S16x1x512, .f32⟩
  | .hbm, ⟨7, _⟩ => ⟨S1x1x1, .f32⟩
  | .hbm, ⟨8, _⟩ => ⟨S8192, .f32⟩
  | .hbm, ⟨9, _⟩ => ⟨S131072, .i32⟩
  | .hbm, ⟨10, _⟩ => ⟨S32x16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local .tc .vmem, ⟨0, _⟩ => ⟨S1x2x64x4096, .f32⟩
  | .local .tc .vmem, ⟨1, _⟩ => ⟨S1x2x64x4096, .f32⟩
  | .local .tc .vmem, ⟨2, _⟩ => ⟨S2x64x512, .f32⟩
  | .local .tc .vmem, ⟨3, _⟩ => ⟨S2x64x512, .f32⟩
  | .local .tc .vmem, ⟨4, _⟩ => ⟨S1x2x4096x512, .f32⟩
  | .local .tc .vmem, ⟨5, _⟩ => ⟨S1x2x4096x512, .f32⟩
  | .local .tc .vmem, ⟨6, _⟩ => ⟨S1x2x4096, .i32⟩
  | .local .tc .vmem, ⟨7, _⟩ => ⟨S1x2x4096, .i32⟩
  | .local .tc .vmem, ⟨8, _⟩ => ⟨S2x1x512, .f32⟩
  | .local .tc .vmem, ⟨9, _⟩ => ⟨S2x1x512, .f32⟩
  | .local .tc .vmem, ⟨10, _⟩ => ⟨S1x1x1, .f32⟩
  | .local .scVector .vmem, ⟨0, _⟩ => ⟨S8192, .f32⟩
  | .local .scVector .vmem, ⟨1, _⟩ => ⟨S4096, .i32⟩
  | .local .scVector .vmem, ⟨2, _⟩ => ⟨S16, .f32⟩
  | _, _ => ⟨S2x16x4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v3_scv : Ref sig .scVector := ⟨.hbm, 8, rfl⟩
abbrev main_v4_scv : Ref sig .scVector := ⟨.hbm, 9, rfl⟩
abbrev main_v5_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x2x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
@[reducible] def k1_t1_loop : Scf.Loop 32 :=
  let c0_i32 : BitVec 32 := 0#32
  let c256_i32 : BitVec 32 := 256#32
  let v4 : BitVec 32 := Scalar.addi c0_i32 c256_i32
  let c1_i32 : BitVec 32 := 1#32
  ⟨c0_i32, v4, c1_i32⟩
def k1_off2 (k1_t1 : Fin k1_t1_loop.trips) : Fin 1 → Nat :=
  let c0_i32 : BitVec 32 := 0#32
  let c1_i32 : BitVec 32 := 1#32
  let arg8 : BitVec 32 := Scf.iv c0_i32 c1_i32 k1_t1
  let c16_i32 : BitVec 32 := 16#32
  let v7 : BitVec 32 := Scalar.muli arg8 c16_i32
  let v8 : Index := Scalar.indexCast v7
  ![v8.toNat]

def k1_chk1 (v9 : IVec S16 32) : Prop :=
  (∀ a x, ((![v9] : Fin 1 → IVec S16 32) a x).toNat < S8192.size a)
theorem k1_idx1_inb : ∀ (v9 : IVec S16 32) (k1_hw1 : k1_chk1 v9), ∀ a x, ((![v9] : Fin 1 → IVec S16 32) a x).toNat < S8192.size a := fun v9 k1_hw1 => k1_hw1
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x16x4096x64 : Shape := ⟨4, ![2, 16, 4096, 64]⟩
abbrev S16x512x64 : Shape := ⟨3, ![16, 512, 64]⟩
abbrev S_ : Shape := ⟨0, ![]⟩
abbrev S2x16x4096 : Shape := ⟨3, ![2, 16, 4096]⟩
abbrev S2x16x4096x1 : Shape := ⟨4, ![2, 16, 4096, 1]⟩
abbrev S16x512x2x4096 : Shape := ⟨4, ![16, 512, 2, 4096]⟩
abbrev S2x16x4096x512 : Shape := ⟨4, ![2, 16, 4096, 512]⟩
abbrev S1x16x512x64 : Shape := ⟨4, ![1, 16, 512, 64]⟩
abbrev S2x16x512x64 : Shape := ⟨4, ![2, 16, 512, 64]⟩
abbrev S2x16x4096x64x1 : Shape := ⟨5, ![2, 16, 4096, 64, 1]⟩
abbrev S1 : Shape := ⟨1, ![1]⟩
abbrev S1x1x1x1x1 : Shape := ⟨5, ![1, 1, 1, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x16x4096x64, .f32⟩
  | .hbm, ⟨1, _⟩ => ⟨S16x512x64, .f32⟩
  | .hbm, ⟨2, _⟩ => ⟨S2x16x4096x64, .f32⟩
  | .hbm, ⟨3, _⟩ => ⟨S_, .f32⟩
  | .hbm, ⟨4, _⟩ => ⟨S2x16x4096, .f32⟩
  | .hbm, ⟨5, _⟩ => ⟨S2x16x4096x1, .f32⟩
  | .hbm, ⟨6, _⟩ => ⟨S2x16x4096x1, .f32⟩
  | .hbm, ⟨7, _⟩ => ⟨S_, .f32⟩
  | .hbm, ⟨8, _⟩ => ⟨S2x16x4096x1, .f32⟩
  | .hbm, ⟨9, _⟩ => ⟨S2x16x4096x1, .f32⟩
  | .hbm, ⟨10, _⟩ => ⟨S2x16x4096x64, .f32⟩
  | .hbm, ⟨11, _⟩ => ⟨S2x16x4096x64, .f32⟩
  | .hbm, ⟨12, _⟩ => ⟨S16x512x2x4096, .f32⟩
  | .hbm, ⟨13, _⟩ => ⟨S2x16x4096x512, .f32⟩
  | .hbm, ⟨14, _⟩ => ⟨S2x16x4096x512, .i32⟩
  | .hbm, ⟨15, _⟩ => ⟨S_, .f32⟩
  | .hbm, ⟨16, _⟩ => ⟨S_, .i32⟩
  | .hbm, ⟨17, _⟩ => ⟨S2x16x4096, .f32⟩
  | .hbm, ⟨18, _⟩ => ⟨S2x16x4096, .i32⟩
  | .hbm, ⟨19, _⟩ => ⟨S1x16x512x64, .f32⟩
  | .hbm, ⟨20, _⟩ => ⟨S2x16x512x64, .f32⟩
  | .hbm, ⟨21, _⟩ => ⟨S2x16x4096x1, .i32⟩
  | .hbm, ⟨22, _⟩ => ⟨S2x16x4096x64, .i32⟩
  | .hbm, ⟨23, _⟩ => ⟨S_, .i32⟩
  | .hbm, ⟨24, _⟩ => ⟨S2x16x4096x64, .i32⟩
  | .hbm, ⟨25, _⟩ => ⟨S2x16x4096x64, .i1⟩
  | .hbm, ⟨26, _⟩ => ⟨S_, .i32⟩
  | .hbm, ⟨27, _⟩ => ⟨S2x16x4096x64, .i32⟩
  | .hbm, ⟨28, _⟩ => ⟨S2x16x4096x64, .i32⟩
  | .hbm, ⟨29, _⟩ => ⟨S2x16x4096x64, .i32⟩
  | .hbm, ⟨30, _⟩ => ⟨S2x16x4096x64x1, .i32⟩
  | .hbm, ⟨31, _⟩ => ⟨S1, .i32⟩
  | .hbm, ⟨32, _⟩ => ⟨S_, .i32⟩
  | .hbm, ⟨33, _⟩ => ⟨S2x16x4096x64x1, .i32⟩
  | .hbm, ⟨34, _⟩ => ⟨S2x16x4096x64x1, .i1⟩
  | .hbm, ⟨35, _⟩ => ⟨S1x1x1x1x1, .i32⟩
  | .hbm, ⟨36, _⟩ => ⟨S2x16x4096x64x1, .i32⟩
  | .hbm, ⟨37, _⟩ => ⟨S2x16x4096x64x1, .i1⟩
  | .hbm, ⟨38, _⟩ => ⟨S2x16x4096x64x1, .i1⟩
  | .hbm, ⟨39, _⟩ => ⟨S_, .i1⟩
  | .hbm, ⟨40, _⟩ => ⟨S2x16x4096x64, .i1⟩
  | .hbm, ⟨41, _⟩ => ⟨S2x16x4096x64, .f32⟩
  | .hbm, ⟨42, _⟩ => ⟨S_, .f32⟩
  | .hbm, ⟨43, _⟩ => ⟨S2x16x4096x64, .f32⟩
  | .hbm, ⟨44, _⟩ => ⟨S2x16x4096x64, .f32⟩
  | .hbm, ⟨45, _⟩ => ⟨S2x16x4096x64, .f32⟩
  | .hbm, ⟨46, _⟩ => ⟨S2x16x4096x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S2x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_c : Ref sig .tc := ⟨.hbm, 16, rfl⟩
abbrev main_call1_v1_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_cst : Ref sig .tc := ⟨.hbm, 42, rfl⟩
abbrev main_call2_v14 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_0 : Ref sig .tc := ⟨.hbm, 47, rfl⟩
abbrev main_v15 : Ref sig .tc := ⟨.hbm, 48, rfl⟩
abbrev main_cst_1 : Ref sig .tc := ⟨.hbm, 49, rfl⟩
abbrev main_v16 : Ref sig .tc := ⟨.hbm, 50, rfl⟩
abbrev main_cst_2 : Ref sig .tc := ⟨.hbm, 51, rfl⟩
abbrev main_v17 : Ref sig .tc := ⟨.hbm, 52, rfl⟩

abbrev nD : Nat := 1
abbrev τ : Topo := Topo.v7x

variable {F : FTy → Type} [FloatOps F]
-- ==== Proof.ScTile.lean ====
/-
  The SparseCore call of the kernel, one vector subcore at a time. A tile copies the whole table `a` of squared norms
  and its chunk of the indices `g` into memory of its own, adds up, sixteen lanes at a time, the table's entries its
  indices name, and copies the sixteen partial sums to its row of the result. The contents of the row are stated:
  `lanes a g w 256`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.ValueIdx
public import Idealize.ShloMosaic.Lib.LaneScatter.Tiles
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## What a tile computes -/

variable [FloatOps F]

/-- The sixteen table entries that the indices `4096 w + 16 k, …` name. -/
def picked (a : FVec F S8192 .f32) (g : IVec S131072 32) (w k : ℕ) : FVec F S16 .f32 := fun x =>
  a (ix1 ⟨(g (ix1 ⟨(4096 * w + 16 * k + (x 0).val) % 131072, Nat.mod_lt _ (by decide)⟩)).toNat % 8192, Nat.mod_lt _ (by decide)⟩)

/-- A tile's sixteen partial sums after `k` trips. -/
def lanes (a : FVec F S8192 .f32) (g : IVec S131072 32) (w : ℕ) : ℕ → FVec F S16 .f32
  | 0 => k1_pay1
  | k + 1 => k1_pay2 (lanes a g w k) (picked a g w k)

/-- The whole result: row `w` holds tile `w`'s sums. -/
def laneSums (a : FVec F S8192 .f32) (g : IVec S131072 32) : FVec F S32x16 .f32 := fun y =>
  lanes a g (y 0).val 256 (ix1 (y 1))

local notation "aW" => (Memref.whole Cert.KernelIdeal.main_v3_scv : Memref Cert.KernelIdeal.sig Kind.scVector Space.hbm Cert.KernelIdeal.S8192 EltTy.f32)
local notation "gW" => (Memref.whole Cert.KernelIdeal.main_v4_scv : Memref Cert.KernelIdeal.sig Kind.scVector Space.hbm Cert.KernelIdeal.S131072 EltTy.i32)
local notation "oW" => (Memref.whole Cert.KernelIdeal.main_v5_scv : Memref Cert.KernelIdeal.sig Kind.scVector Space.hbm Cert.KernelIdeal.S32x16 EltTy.f32)
local notation "tW" => (Memref.whole Cert.KernelIdeal.cc1_scratch0 : Memref Cert.KernelIdeal.sig Kind.scVector Space.vmem Cert.KernelIdeal.S8192 EltTy.f32)
local notation "iW" => (Memref.whole Cert.KernelIdeal.cc1_scratch1 : Memref Cert.KernelIdeal.sig Kind.scVector Space.vmem Cert.KernelIdeal.S4096 EltTy.i32)
local notation "sW" => (Memref.whole Cert.KernelIdeal.cc1_scratch2 : Memref Cert.KernelIdeal.sig Kind.scVector Space.vmem Cert.KernelIdeal.S16 EltTy.f32)

abbrev aLoc (d : Dev nD) : Loc nD τ sig := (SparseCore.T d).loc main_v3
abbrev gLoc (d : Dev nD) : Loc nD τ sig := (SparseCore.T d).loc main_v4
abbrev oLoc (d : Dev nD) : Loc nD τ sig := (SparseCore.T d).loc main_v5

/-- The table and the indices at a share, whole. -/
abbrev aPts (d : Dev nD) (q : PosShare TreeShare) (a : Buf (Elt F) (aLoc d)) : sProp 𝕄 := aLoc d ↦{q} a
abbrev gPts (d : Dev nD) (q : PosShare TreeShare) (g : Buf (Elt F) (gLoc d)) : sProp 𝕄 := gLoc d ↦{q} g

section Tile

variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)
/-- The tile's number, its row of the result. -/
abbrev wOf (L : grid1.Coords) : ℕ := 2 * (L 1).val + (L 0).val

/-- The tile's row of the result as it slices it. -/
abbrev oRow (L : grid1.Coords) : Memref sig .scVector .hbm S16 .f32 :=
  ((oW).slice (Rect.unit (s := S32x16) (k1_off3 L) S1x16.size (k1_off3_inb L)) (fun _ => rfl)).squeeze S16 squeezes_S1x16_S16
abbrev rowSet (L : grid1.Coords) : Finset S32x16.Idx := (oRow L).view.set

omit [FloatOps F] in
theorem ownSems0_V :
    (ownSems0 (VT d L) : sProp 𝕄)
      = iprop(semVal (VT d L, .dma cc1_scoped0.sem) 0 ∗ semVal (VT d L, .dma cc1_scoped1.sem) 0 ∗ semVal (VT d L, .dma cc1_scoped2.sem) 0
          ∗ bigSep ((((ownCells (VT d L)).erase (VT d L, .dma cc1_scoped0.sem)).erase (VT d L, .dma cc1_scoped1.sem)).erase (VT d L, .dma cc1_scoped2.sem))
              fun g => semVal g 0) := by
  have hne : ∀ {s s' : SemLoc sig}, s ≠ s' → ((VT d L, s) : GSem nD τ sig) ≠ (VT d L, s') := fun h e => h (Prod.mk.inj e).2
  have hsc : ∀ {s : SemLoc sig}, s.isScoped .scVector = true → ((VT d L, s) : GSem nD τ sig) ∈ ownCells (VT d L) := fun h => mem_ownCells.mpr ⟨rfl, h⟩
  unfold SparseCore.Cfg.ownSems0
  rw [SparseCore.bigSep_erase' (hsc (s := .dma cc1_scoped0.sem) (by decide)),
    SparseCore.bigSep_erase' (Finset.mem_erase.mpr ⟨hne (s := .dma cc1_scoped1.sem) (by decide), hsc (by decide)⟩),
    SparseCore.bigSep_erase' (Finset.mem_erase.mpr ⟨hne (s := .dma cc1_scoped2.sem) (by decide),
      Finset.mem_erase.mpr ⟨hne (s := .dma cc1_scoped2.sem) (by decide), hsc (by decide)⟩⟩)]

omit [FloatOps F] in
theorem ownBufs_V :
    (ownBufs (VT d L) : sProp 𝕄)
      = iprop((∃ f, (tW).view.loc (VT d L) ↦{fullShare} f) ∗ (∃ f, (iW).view.loc (VT d L) ↦{fullShare} f)
          ∗ (∃ f, (sW).view.loc (VT d L) ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have hne : ∀ {r r' : Ref sig .scVector}, r ≠ r' → (Proc.scVector (cV L) (jV L)).devRef r ≠ (Proc.scVector (cV L) (jV L)).devRef r' :=
    fun h e => h (Proc.devRef_injective _ e)
  have hmem : ∀ {r : Ref sig .scVector}, ((Proc.scVector (cV L) (jV L)).devRef r).owner = .proc (.scVector (cV L) (jV L)) →
      (Proc.scVector (cV L) (jV L)).devRef r ∈ ownRefs (τ := τ) (.scVector (cV L) (jV L)) := fun h =>
    SparseCore.Cfg.mem_ownRefs_of_owner (p := Proc.scVector (cV L) (jV L)) h
  unfold SparseCore.Cfg.ownBufs
  refine (SparseCore.bigSep_erase' (hmem (r := cc1_scratch0) rfl)).trans ?_
  rw [SparseCore.bigSep_erase' (Finset.mem_erase.mpr ⟨hne (r := cc1_scratch1) (by decide), hmem rfl⟩),
    SparseCore.bigSep_erase' (Finset.mem_erase.mpr ⟨hne (r := cc1_scratch2) (by decide), Finset.mem_erase.mpr ⟨hne (r := cc1_scratch2) (by decide), hmem rfl⟩⟩)]

/-- The tile's row of the result. -/
abbrev oPts (d : Dev nD) (L : grid1.Coords) (f : Buf (Elt F) (oLoc d)) : sProp 𝕄 := oLoc d ↦[rowSet L]{fullShare} f

/-- A tile's chunk of the indices. -/
def chunk (g : IVec S131072 32) (w : ℕ) : IVec S4096 32 := fun y => g (ix1 ⟨(4096 * w + (y 0).val) % 131072, Nat.mod_lt _ (by decide)⟩)

/-- The loop's invariant: the sums after `k` trips, the table and the chunk in the tile's own memory. -/
def loopInv (a : Buf (Elt F) (aLoc d)) (g : Buf (Elt F) (gLoc d)) (k : ℕ) (acc : FVec F S16 .f32) : sProp 𝕄 :=
  iprop(⌜acc = lanes a g (wOf L) k⌝ ∗ ((tW).view.loc (VT d L) ↦{fullShare} a) ∗ ((iW).view.loc (VT d L) ↦{fullShare} chunk g (wOf L)))

omit [FloatOps F] in
theorem pts_eq {ℓ : Loc nD τ sig} {q : PosShare TreeShare} {f f' : Buf (Elt F) ℓ} (h : f = f') :
    ((ℓ ↦{q} f : sProp 𝕄)) ⊢ ℓ ↦{q} f' := by rw [h]

omit [FloatOps F] in
theorem ext1 {n : ℕ} {i j : (⟨1, ![n]⟩ : Shape).Idx} (h : (i 0).val = (j 0).val) : i = j := by
  funext b
  obtain rfl : b = 0 := Subsingleton.elim _ _
  exact Fin.ext h

omit [FloatOps F] in
theorem trips_eq : k1_t1_loop.trips = 256 := by decide

omit [FloatOps F] in
theorem wOf_lt : wOf L < 32 := by
  have h0 : (L 0).val < 2 := (L 0).isLt
  have h1 : (L 1).val < 16 := (L 1).isLt
  show 2 * (L 1).val + (L 0).val < 32
  omega

omit [FloatOps F] in
/-- The fetch of the chunk: the indices from `4096 w` on. -/
theorem chunk_eq (g : Buf (Elt F) (gLoc d)) :
    ReadAs.same.apply (View.read (Elt F) ((gW).slice (Rect.unit (s := S131072) (k1_off1 L) S4096.size (k1_off1_inb L)) (fun _ => rfl)).view g)
      = chunk g (wOf L) := by
  funext y
  have hw := wOf_lt L
  have hy : (y 0).val < 4096 := (y 0).isLt
  refine congrArg (α := S131072.Idx) g (ext1 ?_)
  have e : k1_off1 L 0 = 8192 * (L 1).val + 4096 * (L 0).val := by rw [k1_off1_eq]; rfl
  show k1_off1 L 0 + 1 * (y 0).val = (4096 * wOf L + (y 0).val) % 131072
  rw [e, Nat.mod_eq_of_lt (by omega)]
  show _ = 4096 * (2 * (L 1).val + (L 0).val) + _
  omega

omit [FloatOps F] in
/-- A trip's load of sixteen indices. -/
theorem trip_idx (g : IVec S131072 32) (k : Fin k1_t1_loop.trips) (x : S16.Idx) :
    (iW).view.readAt (Elt F) (Rect.unit (s := S4096) (k1_off2 k) S16.size (k1_off2_inb k)).toLoadRect (chunk g (wOf L)) x
      = g (ix1 ⟨(4096 * wOf L + 16 * k.val + (x 0).val) % 131072, Nat.mod_lt _ (by decide)⟩) := by
  refine congrArg (α := S131072.Idx) g (ext1 ?_)
  have e : k1_off2 k 0 = 16 * k.val := by rw [k1_off2_eq]; rfl
  show (4096 * wOf L + (k1_off2 k 0 + 1 * (x 0).val)) % 131072 = (4096 * wOf L + 16 * k.val + (x 0).val) % 131072
  rw [e]; congr 1; omega

omit [FloatOps F] in
theorem chk_ok (g : Buf (Elt F) (gLoc d)) (hg : ∀ j, (g j).toNat < 8192) (k : Fin k1_t1_loop.trips) :
    k1_chk1 ((iW).view.readAt (Elt F) (Rect.unit (s := S4096) (k1_off2 k) S16.size (k1_off2_inb k)).toLoadRect (chunk g (wOf L))) := by
  intro b x
  obtain rfl : b = 0 := Subsingleton.elim _ _
  have h := congrArg BitVec.toNat (trip_idx (F := F) L g k x)
  exact h.trans_lt (hg _)

/-- A trip's gather: the entries its sixteen indices name. -/
theorem trip_val (a : FVec F S8192 .f32) (g : Buf (Elt F) (gLoc d)) (hg : ∀ j, (g j).toNat < 8192) (k : Fin k1_t1_loop.trips)
    (h : ∀ b x, ((![(iW).view.readAt (Elt F) (Rect.unit (s := S4096) (k1_off2 k) S16.size (k1_off2_inb k)).toLoadRect (chunk g (wOf L))] : Fin S8192.rank → IVec S16 32) b x).toNat < S8192.size b) :
    loadIdx (F := F) (e := .f32) (((tW).access (.whole S8192)).read (Elt F) a) ![(iW).view.readAt (Elt F) (Rect.unit (s := S4096) (k1_off2 k) S16.size (k1_off2_inb k)).toLoadRect (chunk g (wOf L))] h
      = picked a g (wOf L) k.val := by
  funext x
  refine congrArg (α := S8192.Idx) a (ext1 ?_)
  show 0 + 1 * BitVec.toNat ((iW).view.readAt (Elt F) _ (chunk g (wOf L)) x) = _ % 8192
  rw [trip_idx, Nat.mod_eq_of_lt (hg _)]
  omega

omit [FloatOps F] in
/-- Where the tile's row lies in the result. -/
theorem oRow_emb (j : S16.Idx) : (oRow L).view.emb j = ix2 ⟨wOf L, wOf_lt L⟩ (j 0) := by
  have e : k1_off3 L = ![2 * (L 1).val + (L 0).val, 0] := k1_off3_eq L
  have h1 : Shape.reshapeEquiv squeezes_S1x16_S16.numel_eq j = Fin.cons ⟨0, Nat.one_pos⟩ j := Shape.reshapeEquiv_cons_one _ j
  funext b
  apply Fin.ext
  show k1_off3 L b + 1 * (Shape.reshapeEquiv squeezes_S1x16_S16.numel_eq j b).val = _
  rw [h1, e]
  match b with
  | 0 => show 2 * (L 1).val + (L 0).val + 1 * 0 = 2 * (L 1).val + (L 0).val; omega
  | 1 => show 0 + 1 * (j 0).val = (j 0).val; omega

omit [FloatOps F] in
theorem mem_rowSet (i : S32x16.Idx) : i ∈ rowSet L ↔ (i 0).val = wOf L := by
  constructor
  · intro hi
    obtain ⟨j, -, rfl⟩ := Finset.mem_map.mp hi
    rw [oRow_emb]
  · intro h
    refine Finset.mem_map.mpr ⟨ix1 (i 1), Finset.mem_univ _, ?_⟩
    rw [oRow_emb]
    funext b
    match b with
    | 0 => exact Fin.ext h.symm
    | 1 => rfl

theorem row_eq (a : FVec F S8192 .f32) (g : IVec S131072 32) (fo : Buf (Elt F) (oLoc d)) :
    ∀ i ∈ rowSet L, (oRow L).view.writes (Elt F) fo [⟨Rect.whole S16, lanes a g (wOf L) 256⟩] i = laneSums a g i := by
  intro i hi
  obtain ⟨j, -, rfl⟩ := Finset.mem_map.mp hi
  have h := congrFun (View.read_writes_whole (Val := Elt F) (oRow L).view fo (lanes a g (wOf L) 256)) j
  refine Eq.trans h ?_
  rw [oRow_emb]
  show lanes a g (wOf L) 256 j = lanes a g (wOf L) 256 _
  exact congrArg _ (ext1 rfl)

theorem tile_body (a : Buf (Elt F) (aLoc d)) (g : Buf (Elt F) (gLoc d)) (fo : Buf (Elt F) (oLoc d)) (q : PosShare TreeShare)
    (hF : (K (F := F)).Facts) (hg : ∀ j, (g j).toNat < 8192) (O : CellTallies nD τ sig (HIx 1)) (W : Waits sig (HIx 1)) (hO : ∀ g, O g none = 0) :
    iprop(levAts (K (F := F)).L (K (F := F)).lev ∗ emp
        ∗ (aPts d q a ∗ gPts d q g ∗ oPts d L fo)
        ∗ scopedBufs (VT d L) ∗ scopedSems0 (VT d L) ∗ owes (VT d L) O W)
      ⊢ wp frame (wpE (defs₀ (F := F)) 𝒱₀ (VT d L) none) Set.univ
          (cc1__sc_loss_kernel L aW (Memref.isWhole_whole _) gW (Memref.isWhole_whole _) oW (Memref.isWhole_whole _)
            tW (Memref.isWhole_whole _) iW (Memref.isWhole_whole _) sW (Memref.isWhole_whole _) cc1_scoped0 cc1_scoped1 cc1_scoped2)
          fun _ => iprop((aPts d q a ∗ gPts d q g ∗ oPts d L (laneSums a g))
            ∗ scopedBufs (VT d L) ∗ scopedSems0 (VT d L)
            ∗ ∃ W', ⌜∀ p ∈ W', p ∈ W ∨ p.2 = none⌝ ∗ owes (VT d L) O W') := by
  simp only [cc1__sc_loss_kernel_eq_skeleton]; unfold cc1__sc_loss_kernel_skel
  rw [(K (F := F)).scopedBufs_V hF d (cV L) (jV L), SparseCore.Cfg.scopedSems0_V (Val := Elt F) d (cV L) (jV L), ownSems0_V, ownBufs_V]
  iintro ⟨#Hlv, -, ⟨Ha, Hg, Ho⟩, ⟨⟨%f5, H5⟩, ⟨%f6, H6⟩, ⟨%f7, H7⟩, Hbufs⟩, ⟨Hs0, Hs1, Hs2, Hsems⟩, HO⟩
  ihave Hmw := ((K (F := F)).mayWaits_none (thr := VT d L) hO) $$ Hlv
  ihave Ha' := (show (aLoc d ↦{q} a : sProp 𝕄) ⊢ (aW).view.loc (VT d L) ↦{q} a from .rfl) $$ Ha
  ihave Hg' := (show (gLoc d ↦{q} g : sProp 𝕄) ⊢ (gW).view.loc (VT d L) ↦{q} g from .rfl) $$ Hg
  ihave Ho' := (show (oLoc d ↦[rowSet L]{fullShare} fo : sProp 𝕄) ⊢ (oRow L).view.loc (VT d L) ↦[(oRow L).view.set]{fullShare} fo from .rfl) $$ Ho
  sl_exec
  ihave H5 := (pts_eq (F := F) (ℓ := (tW).view.loc (VT d L)) (f' := a) (by
    simp only [Memref.view_whole, View.write_whole_univ]; rfl)) $$ H5
  ihave H6 := (pts_eq (F := F) (ℓ := (iW).view.loc (VT d L)) (f' := chunk g (wOf L)) (by
    simp only [Memref.view_whole, View.write_whole_univ]; exact chunk_eq d L g)) $$ H6
  sl_for (loopInv d L a g) $$ [H5 H6]
  case region =>
    intro k acc
    unfold loopInv
    iintro ⟨%hacc, H5, H6⟩
    unfold tile_body.sl.prog.body_1
    unfold k1_t1_body
    simp only [Prog.lift, Prog.bind_op, Prog.bind_ret, Prog.pure_eq_ret]
    iapply (wp_load 𝒱₀ (VT d L) none Set.univ (m := iW) (S := Finset.univ) (Finset.subset_univ _)) $$ H6; iintro H6
    rw [wp_assume_of _ _ _ _ (chk_ok (F := F) d L g hg k)]
    iapply (SparseCore.wp_vectorLoadIdx 𝒱₀ (VT d L) none Set.univ (base := tW) (S := Finset.univ) (q := fullShare) (Finset.subset_univ _)) $$ H5; iintro H5
    rw [wp_ret]; imodintro
    isplitr
    · ipureintro; subst hacc; exact congrArg (k1_pay2 _) (trip_val (F := F) d L a g hg k _)
    isplitl [H5]; · iexact H5
    iexact H6
  · unfold loopInv
    isplitr; · ipureintro; rfl
    isplitl [H5]; · iexact H5
    iexact H6
  iintro %acc HI
  unfold loopInv
  icases HI with ⟨%hacc, H5, H6⟩
  sl_exec
  rw [wp_ret]; imodintro
  isplitl [Ha' Hg' Ho']
  · isplitl [Ha']; · iexact Ha'
    isplitl [Hg']; · iexact Hg'
    iapply (Entails.of_eq (pointsTo_congr (ℓ := oLoc d) (q := fullShare) (f := (oRow L).view.writes (Elt F) fo [⟨Rect.whole S16, tile_body.sl.dma2 d L f7 acc⟩]) (by
      have e : tile_body.sl.dma2 d L f7 acc = lanes a g (wOf L) 256 := by
        unfold tile_body.sl.dma2 tile_body.sl.H7_1
        rw [hacc]
        exact LaneScatter.read_whole_store (s := S16) (sW).view f7 (off := ![0]) (fun b => by obtain rfl : b = 0 := Subsingleton.elim _ _; rfl) _ _
      rw [e]; exact row_eq d L a g fo))); iexact Ho'
  isplitl [H5 H6 H7 Hbufs]
  · isplitl [H5]; · iexists _; iexact H5
    isplitl [H6]; · iexists _; iexact H6
    isplitl [H7]; · iexists _; iexact H7
    iexact Hbufs
  isplitl [Hs0 Hs1 Hs2 Hsems]
  · isplitl [Hs0]; · iexact Hs0
    isplitl [Hs1]; · iexact Hs1
    isplitl [Hs2]; · iexact Hs2
    iexact Hsems
  iexists _; isplitr
  rotate_left
  · iexact HO
  · ipureintro; intro p hp
    simp only [Finset.mem_insert] at hp
    rcases hp with rfl | rfl | rfl | hp
    · exact .inr rfl
    · exact .inr rfl
    · exact .inr rfl
    · exact .inl hp

end Tile

end Cert.Proof.Run

end
-- ==== Proof.ScCall.lean ====
/-
  The SparseCore call as the launch sees it: what it is handed, what it brings back, how that is dealt among the two
  SparseCores and their sixteen vector subcores each. The table and the indices go out as read shares of the whole
  arrays, the result by rows, and its rows come back at one named array, `laneSums`.
-/
module

public import proofs.«01_k».proof.Proof.ScTile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

abbrev NC : ℕ := grid1.bound 0
abbrev NS : ℕ := grid1.bound 1

/-- The coordinates of a tile. -/
def coordsV (c : Fin NC) (s : Fin NS) : grid1.Coords :=
  fun | 0 => c | 1 => s | ⟨_ + 2, h⟩ => absurd h (Nat.not_lt.2 (Nat.le_add_left _ _))

/-- The share of a whole array that a SparseCore reads under, and a tile's share of that. -/
abbrev qC (c : Fin NC) : PosShare TreeShare := Transfers.dealOf fullShare Finset.univ c
abbrev qV (c : Fin NC) (s : Fin NS) : PosShare TreeShare := Transfers.dealOf (qC c) Finset.univ s

/-- The rows of the result a SparseCore's tiles write. -/
def coreSet (c : Fin NC) : Finset S32x16.Idx := Finset.univ.biUnion fun s : Fin NS => rowSet (coordsV c s)

theorem rows_disjoint (c : Fin NC) : ∀ s ∈ (Finset.univ : Finset (Fin NS)), ∀ s' ∈ (Finset.univ : Finset (Fin NS)), s ≠ s' →
    Disjoint (rowSet (coordsV c s)) (rowSet (coordsV c s')) := by
  intro s _ s' _ h
  refine Finset.disjoint_left.mpr fun i hi hi' => h ?_
  have e := ((mem_rowSet _ i).mp hi).symm.trans ((mem_rowSet _ i).mp hi')
  have e' : 2 * s.val + c.val = 2 * s'.val + c.val := e
  exact Fin.ext (by omega)

theorem mem_coreSet (c : Fin NC) (i : S32x16.Idx) : i ∈ coreSet c ↔ (i 0).val % 2 = c.val := by
  have hc : c.val < 2 := c.isLt
  have hi : (i 0).val < 32 := (i 0).isLt
  unfold coreSet
  rw [Finset.mem_biUnion]
  constructor
  · rintro ⟨s, -, h⟩
    have e : (i 0).val = 2 * s.val + c.val := (mem_rowSet _ i).mp h
    omega
  · intro h
    refine ⟨⟨(i 0).val / 2, by show _ < 16; omega⟩, Finset.mem_univ _, (mem_rowSet _ i).mpr ?_⟩
    show (i 0).val = 2 * ((i 0).val / 2) + c.val
    omega

theorem cores_disjoint : ∀ c ∈ (Finset.univ : Finset (Fin NC)), ∀ c' ∈ (Finset.univ : Finset (Fin NC)), c ≠ c' →
    Disjoint (coreSet c) (coreSet c') := by
  intro c _ c' _ h
  refine Finset.disjoint_left.mpr fun i hi hi' => h (Fin.ext ?_)
  exact ((mem_coreSet _ i).mp hi).symm.trans ((mem_coreSet _ i).mp hi')

theorem cores_cover : (Finset.univ : Finset (Fin NC)).biUnion coreSet = Finset.univ := by
  refine Finset.eq_univ_of_forall fun i => Finset.mem_biUnion.mpr ⟨⟨(i 0).val % 2, Nat.mod_lt _ (by decide)⟩, Finset.mem_univ _, ?_⟩
  exact (mem_coreSet _ i).mpr rfl

/-! ## Payloads -/

section Call

variable [FloatOps F]
variable (A : (d : Dev nD) → Buf (Elt F) (aLoc d)) (G : (d : Dev nD) → Buf (Elt F) (gLoc d)) (O₀ : (d : Dev nD) → Buf (Elt F) (oLoc d))

abbrev cPts (d : Dev nD) (c : Fin NC) (f : Buf (Elt F) (oLoc d)) : sProp 𝕄 := oLoc d ↦[coreSet c]{fullShare} f
abbrev oAll (d : Dev nD) (f : Buf (Elt F) (oLoc d)) : sProp 𝕄 := oLoc d ↦{fullShare} f

/-- What a SparseCore is handed and brings back; what a tile is. -/
abbrev stP (d : Dev nD) (c : Fin NC) (f : Buf (Elt F) (oLoc d)) : sProp 𝕄 := iprop(aPts d (qC c) (A d) ∗ gPts d (qC c) (G d) ∗ cPts d c f)
abbrev goP (d : Dev nD) (c : Fin NC) (s : Fin NS) (f : Buf (Elt F) (oLoc d)) : sProp 𝕄 :=
  iprop(aPts d (qV c s) (A d) ∗ gPts d (qV c s) (G d) ∗ oPts d (coordsV c s) f)

def P : (K (F := F)).Pay (nD := nD) (Val := Elt F) (Name := ℕ) (U := UU) where
  st := fun q d c => match q with | 0 => stP A G d c (O₀ d)
  dn := fun q d c => match q with | 0 => stP A G d c (laneSums (A d) (G d))
  go := fun q d c i => match q with | 0 => goP A G d c i (O₀ d)
  td := fun q d c i => match q with | 0 => goP A G d c i (laneSums (A d) (G d))
  x := fun _ _ => iprop(emp)

instance P_storable : (P A G O₀).IsStorable where
  st q d c := match q with | 0 => (inferInstance : BI.Storable (upEmb : UEmb _ 𝕄) (stP A G d c (O₀ d)))
  dn q d c := match q with | 0 => (inferInstance : BI.Storable (upEmb : UEmb _ 𝕄) (stP A G d c (laneSums (A d) (G d))))
  go q d c i := match q with | 0 => (inferInstance : BI.Storable (upEmb : UEmb _ 𝕄) (goP A G d c i (O₀ d)))
  td q d c i := match q with | 0 => (inferInstance : BI.Storable (upEmb : UEmb _ 𝕄) (goP A G d c i (laneSums (A d) (G d))))

theorem defs₀_vector (c : Fin τ.nSC) (s : Fin τ.nSub) :
    defs₀ (F := F) (.scVector c s) 1 ()
      = SparseCore.onTile hcore1 hsub1 (fun c s => cc1__sc_loss_kernel (coordsV c s)
          (Memref.whole main_v3_scv) (Memref.isWhole_whole _) (Memref.whole main_v4_scv) (Memref.isWhole_whole _) (Memref.whole main_v5_scv) (Memref.isWhole_whole _)
          (Memref.whole cc1_scratch0) (Memref.isWhole_whole _) (Memref.whole cc1_scratch1) (Memref.isWhole_whole _) (Memref.whole cc1_scratch2) (Memref.isWhole_whole _)
          cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hG : ∀ d j, (G d j).toNat < 8192) : (K (F := F)).TileObl (D (F := F)) 𝒱 (P A G O₀) v₀ 0 := by
  intro d c i O W hO _ _
  simp only [show (P A G O₀).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (A d) (G d) (O₀ d) (qV ⟨_, hc.1⟩ ⟨_, hc.2⟩) facts (hG d) O W hO).trans
    (wp_mono frame _ _ fun _ => obl_post)

omit [FloatOps F] in
/-- A SparseCore's part is its tiles' parts. -/
theorem stP_tiles (d : Dev nD) (c : Fin NC) (f : Buf (Elt F) (oLoc d)) :
    stP A G d c f = bigSep Finset.univ fun s : Fin NS => goP A G d c s f := by
  show iprop((aLoc d ↦{qC c} A d) ∗ (gLoc d ↦{qC c} G d) ∗ oLoc d ↦[coreSet c]{fullShare} f) = _
  rw [Transfers.pointsTo_deal (ℓ := aLoc d) (Finset.univ : Finset (Fin NS)) ⟨⟨0, by decide⟩, Finset.mem_univ _⟩ (qC c),
    Transfers.pointsTo_deal (ℓ := gLoc d) (Finset.univ : Finset (Fin NS)) ⟨⟨0, by decide⟩, Finset.mem_univ _⟩ (qC c)]
  unfold coreSet
  rw [pointsTo_biUnion (ℓ := oLoc d) Finset.univ (fun s : Fin NS => rowSet (coordsV c s)) (rows_disjoint c), bigSep_sep', bigSep_sep']

omit [FloatOps F] in
/-- The three arrays whole are the SparseCores' parts. -/
theorem whole_cores (d : Dev nD) (f : Buf (Elt F) (oLoc d)) :
    (iprop(aPts d fullShare (A d) ∗ gPts d fullShare (G d) ∗ oAll d f) : sProp 𝕄) = bigSep Finset.univ fun c : Fin NC => stP A G d c f := by
  show iprop((aLoc d ↦{fullShare} A d) ∗ (gLoc d ↦{fullShare} G d) ∗ oLoc d ↦{fullShare} f) = _
  rw [Transfers.pointsTo_deal (ℓ := aLoc d) (Finset.univ : Finset (Fin NC)) ⟨⟨0, by decide⟩, Finset.mem_univ _⟩ fullShare,
    Transfers.pointsTo_deal (ℓ := gLoc d) (Finset.univ : Finset (Fin NC)) ⟨⟨0, by decide⟩, Finset.mem_univ _⟩ fullShare]
  have h : (oLoc d ↦{fullShare} f : sProp 𝕄) = bigSep Finset.univ fun c : Fin NC => oLoc d ↦[coreSet c]{fullShare} f := by
    rw [← pointsTo_biUnion (ℓ := oLoc d) Finset.univ coreSet cores_disjoint, cores_cover]
  rw [h, bigSep_sep', bigSep_sep']

theorem split_core (d : Dev nD) (c : Fin NC) (f f' : Buf (Elt F) (oLoc d)) :
    (stP A G d c f : sProp 𝕄) ⊢ |={Set.univ}=> iprop((bigSep Finset.univ fun i : Fin NS => goP A G d c i f)
      ∗ ((bigSep Finset.univ fun i : Fin NS => goP A G d c i f') -∗ stP A G d c f')) := by
  rw [stP_tiles, stP_tiles]
  iintro H; imodintro
  isplitl [H]; · iexact H
  iintro H; iexact H

theorem vecSplit : (K (F := F)).VecSplit' (P A G O₀) 0 := fun d c => split_core A G d c (O₀ d) (laneSums (A d) (G d))

theorem st_eq (d : Dev nD) :
    (bigSep Finset.univ fun c : Fin ((K (F := F)).nCore 0) => (P A G O₀).st 0 d c) = iprop(aPts d fullShare (A d) ∗ gPts d fullShare (G d) ∗ oAll d (O₀ d)) :=
  (whole_cores A G d (O₀ d)).symm
theorem dn_eq (d : Dev nD) :
    (bigSep Finset.univ fun c : Fin ((K (F := F)).nCore 0) => (P A G O₀).dn 0 d c)
      = iprop(aPts d fullShare (A d) ∗ gPts d fullShare (G d) ∗ oAll d (laneSums (A d) (G d))) :=
  (whole_cores A G d (laneSums (A d) (G d))).symm

end Call

end Cert.Proof.Run

end
-- ==== Proof.TcBody.lean ====
/-
  The TensorCore body at one grid point: what its stores leave in the staging buffers of its four results, as functions
  of the two blocks it reads and, for the running total, of what the total was before.
-/
module

public import proofs.«01_k».proof.Proof.ScTile
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp
public import Idealize.ShloMosaic.Lib.WritesUnit
public import Idealize.ShloMosaic.Lib.WholeRead

@[expose] public section

set_option maxRecDepth 16384

noncomputable section

namespace Cert.Proof.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.ValueIdx

variable {F : FTy → Type} [FloatOps F]

local notation "𝕄" => MT nD τ sig (HIx 1) (Elt F) ℕ UU ℕ

/-! ## The values -/

/-- Head `h` of the block of inputs, and of the block of means. -/
def xAt (x0 : Vec F S1x2x64x4096 .f32) (h : Fin 2) : Vec F S1x1x64x4096 .f32 := fun y => x0 (ix4 0 h (y 2) (y 3))
def mAt (x1 : Vec F S2x64x512 .f32) (h : Fin 2) : Vec F S1x64x512 .f32 := fun y => x1 (ix3 h (y 1) (y 2))

/-- The grid point's number as the body has it. -/
def pt (i : grid0.Coords) : BitVec 32 := BitVec.ofNat 32 (i 0).val

/-- Two heads' arrays side by side. -/
def twoD (p q : Vec F S1x1x4096x512 .f32) : Vec F S1x2x4096x512 .f32 := fun y =>
  if (y 1 : Fin 2).val = 0 then p (ix4 0 0 (y 2) (y 3)) else q (ix4 0 0 (y 2) (y 3))
def twoG (p q : Vec F S1x1x4096 .i32) : Vec F S1x2x4096 .i32 := fun y =>
  if (y 1 : Fin 2).val = 0 then p (ix3 0 0 (y 2)) else q (ix3 0 0 (y 2))
def twoM (p q : Vec F S1x1x512 .f32) : Vec F S2x1x512 .f32 := fun y =>
  if (y 0 : Fin 2).val = 0 then p (ix3 0 0 (y 2)) else q (ix3 0 0 (y 2))

/-- The body's similarities, indices, squared norms of the means, and the total after the point. -/
def bD (x0 : Vec F S1x2x64x4096 .f32) (x1 : Vec F S2x64x512 .f32) : Vec F S1x2x4096x512 .f32 :=
  twoD (k0_pay11 (xAt x0 0) (mAt x1 0)) (k0_pay24 (k0_pay18 (xAt x0 1)) (k0_pay19 (mAt x1 1)) (k0_pay20 (xAt x0 1)))

def bG (i : grid0.Coords) (x0 : Vec F S1x2x64x4096 .f32) (x1 : Vec F S2x64x512 .f32) : Vec F S1x2x4096 .i32 :=
  twoG (k0_pay15 (k0_pay14 (xAt x0 0) (mAt x1 0)) 8#32 (Scalar.remsi (pt i) 8#32)
      (Scalar.cmpi .ne (Scalar.remsi (pt i) 8#32) 0#32) (Scalar.cmpi .slt (Scalar.remsi (pt i) 8#32) 0#32))
    (k0_pay1 (k0_pay27 (pt i) (k0_pay18 (xAt x0 1)) (k0_pay19 (mAt x1 1)) (k0_pay20 (xAt x0 1))))

def bM (x1 : Vec F S2x64x512 .f32) : Vec F S2x1x512 .f32 :=
  twoM (k0_pay16 (k0_pay7 (mAt x1 0))) (k0_pay2 (k0_pay19 (mAt x1 1)))

def bP (x0 : Vec F S1x2x64x4096 .f32) (x1 : Vec F S2x64x512 .f32) (p : Vec F S1x1x1 .f32) : Vec F S1x1x1 .f32 :=
  k0_pay4 (k0_pay17 k0_pay5 (k0_pay8 (xAt x0 0)) (k0_pay9 (xAt x0 0)) (k0_pay13 (xAt x0 0) (mAt x1 0)))
    (k0_pay21 (k0_pay20 (xAt x0 1))) (k0_pay22 (k0_pay20 (xAt x0 1)))
    (k0_pay26 (k0_pay18 (xAt x0 1)) (k0_pay19 (mAt x1 1)) (k0_pay20 (xAt x0 1))) p

/-- The body's test for the first grid point. -/
abbrev isFirst (i : grid0.Coords) : Prop := (Scalar.cmpi .ne (Scalar.extui (Scalar.cmpi .eq (BitVec.ofNat 32 (i 0).val) 0#32)) 0#32) = 1#1

theorem isFirst_iff : ∀ t : Fin cfg0.N, isFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : (grid0.coords t 0).val = t.val := by omega
    simp only [isFirst, e1]
    word_cmp
   : ∀ t : Fin grid0.N, isFirst (grid0.coords t) ↔ t.val = 0)

/-! ## Loads of one head, and two stores of one head each -/

theorem ld_x (m : Memref sig .tc .vmem S1x2x64x4096 .f32) (hm : m.IsWhole) (x0 : Vec F S1x2x64x4096 .f32) (h : Fin 2)
    (inb : ∀ a, (![0, h.val, 0, 0] : Fin 4 → ℕ) a + S1x1x64x4096.size a ≤ S1x2x64x4096.size a) :
    m.view.readAt (Elt F) (Rect.unit (s := S1x2x64x4096) ![0, h.val, 0, 0] S1x1x64x4096.size inb).toLoadRect (hm.unread x0) = xAt x0 h := by
  funext y
  refine (hm.readAt_unread x0 _ y).trans (congrArg (α := S1x2x64x4096.Idx) x0 ?_)
  have h0 : (y 0).val < 1 := (y 0).isLt
  have h1 : (y 1).val < 1 := (y 1).isLt
  funext a; apply Fin.ext
  match a with
  | ⟨0, _⟩ => show 0 + 1 * (y 0).val = 0; omega
  | ⟨1, _⟩ => show h.val + 1 * (y 1).val = h.val; omega
  | ⟨2, _⟩ => show 0 + 1 * (y 2).val = (y 2).val; omega
  | ⟨3, _⟩ => show 0 + 1 * (y 3).val = (y 3).val; omega

theorem ld_m (m : Memref sig .tc .vmem S2x64x512 .f32) (hm : m.IsWhole) (x1 : Vec F S2x64x512 .f32) (h : Fin 2)
    (inb : ∀ a, (![h.val, 0, 0] : Fin 3 → ℕ) a + S1x64x512.size a ≤ S2x64x512.size a) :
    m.view.readAt (Elt F) (Rect.unit (s := S2x64x512) ![h.val, 0, 0] S1x64x512.size inb).toLoadRect (hm.unread x1) = mAt x1 h := by
  funext y
  refine (hm.readAt_unread x1 _ y).trans (congrArg (α := S2x64x512.Idx) x1 ?_)
  have h0 : (y 0).val < 1 := (y 0).isLt
  funext a; apply Fin.ext
  match a with
  | ⟨0, _⟩ => show h.val + 1 * (y 0).val = h.val; omega
  | ⟨1, _⟩ => show 0 + 1 * (y 1).val = (y 1).val; omega
  | ⟨2, _⟩ => show 0 + 1 * (y 2).val = (y 2).val; omega

theorem st_D (v : View sig .tc .vmem S1x2x4096x512 .f32) (f : v.ty.Contents (Elt F)) (p q : Vec F S1x1x4096x512 .f32)
    (i1 : ∀ a, (![0, 1, 0, 0] : Fin 4 → ℕ) a + S1x1x4096x512.size a ≤ S1x2x4096x512.size a)
    (i0 : ∀ a, (![0, 0, 0, 0] : Fin 4 → ℕ) a + S1x1x4096x512.size a ≤ S1x2x4096x512.size a) :
    v.read (Elt F) (v.writes (Elt F) f [⟨Rect.unit (s := S1x2x4096x512) ![0, 1, 0, 0] S1x1x4096x512.size i1, q⟩,
        ⟨Rect.unit (s := S1x2x4096x512) ![0, 0, 0, 0] S1x1x4096x512.size i0, p⟩])
      = twoD p q := by
  funext y; unfold twoD
  have h0 : (y 0).val < 1 := (y 0).isLt
  have h1 : (y 1).val < 2 := (y 1).isLt
  by_cases h : (y 1 : Fin 2).val = 0
  · rw [if_pos h, View.read_writes_cons_unit_of_not_mem v f i1 q _ y rfl 1 (Or.inl (show (y 1).val < 1 by
      have h' : (y 1).val = 0 := h; omega))]
    refine View.read_writes_cons_unit_of_mem v f i0 p [] y (ix4 0 0 (y 2) (y 3)) rfl fun a => ?_
    have h' : (y 1).val = 0 := h
    match a with
    | ⟨0, _⟩ => show (y 0).val = 0 + 0; omega
    | ⟨1, _⟩ => show (y 1).val = 0 + 0; omega
    | ⟨2, _⟩ => show (y 2).val = 0 + (y 2).val; omega
    | ⟨3, _⟩ => show (y 3).val = 0 + (y 3).val; omega
  · rw [if_neg h]
    refine View.read_writes_cons_unit_of_mem v f i1 q _ y (ix4 0 0 (y 2) (y 3)) rfl fun a => ?_
    have h' : ¬ (y 1).val = 0 := h
    match a with
    | ⟨0, _⟩ => show (y 0).val = 0 + 0; omega
    | ⟨1, _⟩ => show (y 1).val = 1 + 0; omega
    | ⟨2, _⟩ => show (y 2).val = 0 + (y 2).val; omega
    | ⟨3, _⟩ => show (y 3).val = 0 + (y 3).val; omega

theorem st_G (v : View sig .tc .vmem S1x2x4096 .i32) (f : v.ty.Contents (Elt F)) (p q : Vec F S1x1x4096 .i32)
    (i1 : ∀ a, (![0, 1, 0] : Fin 3 → ℕ) a + S1x1x4096.size a ≤ S1x2x4096.size a)
    (i0 : ∀ a, (![0, 0, 0] : Fin 3 → ℕ) a + S1x1x4096.size a ≤ S1x2x4096.size a) :
    v.read (Elt F) (v.writes (Elt F) f [⟨Rect.unit (s := S1x2x4096) ![0, 1, 0] S1x1x4096.size i1, q⟩,
        ⟨Rect.unit (s := S1x2x4096) ![0, 0, 0] S1x1x4096.size i0, p⟩])
      = twoG p q := by
  funext y; unfold twoG
  have h0 : (y 0).val < 1 := (y 0).isLt
  have h1 : (y 1).val < 2 := (y 1).isLt
  by_cases h : (y 1 : Fin 2).val = 0
  · rw [if_pos h, View.read_writes_cons_unit_of_not_mem v f i1 q _ y rfl 1 (Or.inl (show (y 1).val < 1 by
      have h' : (y 1).val = 0 := h; omega))]
    refine View.read_writes_cons_unit_of_mem v f i0 p [] y (ix3 0 0 (y 2)) rfl fun a => ?_
    have h' : (y 1).val = 0 := h
    match a with
    | ⟨0, _⟩ => show (y 0).val = 0 + 0; omega
    | ⟨1, _⟩ => show (y 1).val = 0 + 0; omega
    | ⟨2, _⟩ => show (y 2).val = 0 + (y 2).val; omega
  · rw [if_neg h]
    refine View.read_writes_cons_unit_of_mem v f i1 q _ y (ix3 0 0 (y 2)) rfl fun a => ?_
    have h' : ¬ (y 1).val = 0 := h
    match a with
    | ⟨0, _⟩ => show (y 0).val = 0 + 0; omega
    | ⟨1, _⟩ => show (y 1).val = 1 + 0; omega
    | ⟨2, _⟩ => show (y 2).val = 0 + (y 2).val; omega

theorem st_M (v : View sig .tc .vmem S2x1x512 .f32) (f : v.ty.Contents (Elt F)) (p q : Vec F S1x1x512 .f32)
    (i1 : ∀ a, (![1, 0, 0] : Fin 3 → ℕ) a + S1x1x512.size a ≤ S2x1x512.size a)
    (i0 : ∀ a, (![0, 0, 0] : Fin 3 → ℕ) a + S1x1x512.size a ≤ S2x1x512.size a) :
    v.read (Elt F) (v.writes (Elt F) f [⟨Rect.unit (s := S2x1x512) ![1, 0, 0] S1x1x512.size i1, q⟩,
        ⟨Rect.unit (s := S2x1x512) ![0, 0, 0] S1x1x512.size i0, p⟩])
      = twoM p q := by
  funext y; unfold twoM
  have h0 : (y 0).val < 2 := (y 0).isLt
  have h1 : (y 1).val < 1 := (y 1).isLt
  by_cases h : (y 0 : Fin 2).val = 0
  · rw [if_pos h, View.read_writes_cons_unit_of_not_mem v f i1 q _ y rfl 0 (Or.inl (show (y 0).val < 1 by
      have h' : (y 0).val = 0 := h; omega))]
    refine View.read_writes_cons_unit_of_mem v f i0 p [] y (ix3 0 0 (y 2)) rfl fun a => ?_
    have h' : (y 0).val = 0 := h
    match a with
    | ⟨0, _⟩ => show (y 0).val = 0 + 0; omega
    | ⟨1, _⟩ => show (y 1).val = 0 + 0; omega
    | ⟨2, _⟩ => show (y 2).val = 0 + (y 2).val; omega
  · rw [if_neg h]
    refine View.read_writes_cons_unit_of_mem v f i1 q _ y (ix3 0 0 (y 2)) rfl fun a => ?_
    have h' : ¬ (y 0).val = 0 := h
    match a with
    | ⟨0, _⟩ => show (y 0).val = 1 + 0; omega
    | ⟨1, _⟩ => show (y 1).val = 0 + 0; omega
    | ⟨2, _⟩ => show (y 2).val = 0 + (y 2).val; omega

/-- A store of the one element, over whatever was stored before it. -/
theorem st_P (v : View sig .tc .vmem S1x1x1 .f32) (f : v.ty.Contents (Elt F)) (p : Vec F S1x1x1 .f32)
    (L : List (View.Piece (Elt F) S1x1x1 .f32))
    (i0 : ∀ a, (![0, 0, 0] : Fin 3 → ℕ) a + S1x1x1.size a ≤ S1x1x1.size a) :
    v.read (Elt F) (v.writes (Elt F) f (⟨Rect.unit (s := S1x1x1) ![0, 0, 0] S1x1x1.size i0, p⟩ :: L)) = p := by
  funext y
  refine View.read_writes_cons_unit_of_mem v f i0 p L y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

theorem ld_P (m : Memref sig .tc .vmem S1x1x1 .f32) (hm : m.IsWhole) (x : Vec F S1x1x1 .f32)
    (inb : ∀ a, (![0, 0, 0] : Fin 3 → ℕ) a + S1x1x1.size a ≤ S1x1x1.size a) :
    m.view.readAt (Elt F) (Rect.unit (s := S1x1x1) ![0, 0, 0] S1x1x1.size inb).toLoadRect (hm.unread x) = x := by
  funext y
  refine (hm.readAt_unread x _ y).trans (congrArg (α := S1x1x1.Idx) x ?_)
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

set_option maxHeartbeats 4000000 in
theorem body_first (c : Dev nD) (i : grid0.Coords) (arg1 : Memref sig .tc .vmem S1x2x64x4096 .f32) (harg1 : arg1.IsWhole)
    (arg2 : Memref sig .tc .vmem S2x64x512 .f32) (harg2 : arg2.IsWhole) (arg3 : Memref sig .tc .vmem S1x2x4096x512 .f32) (harg3 : arg3.IsWhole)
    (arg4 : Memref sig .tc .vmem S1x2x4096 .i32) (harg4 : arg4.IsWhole) (arg5 : Memref sig .tc .vmem S2x1x512 .f32) (harg5 : arg5.IsWhole)
    (arg6 : Memref sig .tc .vmem S1x1x1 .f32) (harg6 : arg6.IsWhole) (hc0 : isFirst i)
    (x0 : Vec F S1x2x64x4096 .f32) (x1 : Vec F S2x64x512 .f32) (E : Set ℕ) (Q : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (bD x0 x1) ∗ owns (c : Thread nD τ) arg4 fullShare (bG i x0 x1)
            ∗ owns (c : Thread nD τ) arg5 fullShare (bM x1) ∗ owns (c : Thread nD τ) arg6 fullShare (bP x0 x1 k0_pay3)) -∗ Q ⟨⟩))
      ⊢ wp frame (wpE (defs₀ (F := F)) 𝒱₀ c none) E (cc0__tc_kernel i arg1 harg1 arg2 harg2 arg3 harg3 arg4 harg4 arg5 harg5 arg6 harg6) Q := by
  simp only [cc0__tc_kernel_eq_skeleton]; unfold cc0__tc_kernel_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  obtain rfl := harg1.eq_unread hf0; obtain rfl := harg2.eq_unread hf1
  sl_exec (disch := first | sl_exact hc0)
  sl_step
  have e0 : arg1.view.readAt (Elt F) (Rect.unit (s := S1x2x64x4096) ![0, 0, 0, 0] S1x1x64x4096.size inb_S1x2x64x4096_S1x1x64x4096_0_0_0_0).toLoadRect (harg1.unread x0) = xAt x0 0 := ld_x arg1 harg1 x0 0 _
  have e1 : arg1.view.readAt (Elt F) (Rect.unit (s := S1x2x64x4096) ![0, 1, 0, 0] S1x1x64x4096.size inb_S1x2x64x4096_S1x1x64x4096_0_1_0_0).toLoadRect (harg1.unread x0) = xAt x0 1 := ld_x arg1 harg1 x0 1 _
  have g0 : arg2.view.readAt (Elt F) (Rect.unit (s := S2x64x512) ![0, 0, 0] S1x64x512.size inb_S2x64x512_S1x64x512_0_0_0).toLoadRect (harg2.unread x1) = mAt x1 0 := ld_m arg2 harg2 x1 0 _
  have g1 : arg2.view.readAt (Elt F) (Rect.unit (s := S2x64x512) ![1, 0, 0] S1x64x512.size inb_S2x64x512_S1x64x512_1_0_0).toLoadRect (harg2.unread x1) = mAt x1 1 := ld_m arg2 harg2 x1 1 _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (st_D arg3.view f2 _ _ _ _).trans ?_
    unfold body_first.sl.r_6 body_first.sl.r_7 body_first.sl.r_8
    rw [e0, e1, g0, g1]
    rfl
  isplitl [H3]
  · iexists _; isplitr; swap; · iexact H3
    ipureintro
    unfold body_first.sl.r_12
    refine (st_G arg4.view f3 _ _ _ _).trans ?_
    unfold body_first.sl.r_4 body_first.sl.r_6 body_first.sl.r_7 body_first.sl.r_8
    rw [e0, e1, g0, g1]
    rfl
  isplitl [H4]
  · iexists _; isplitr; swap; · iexact H4
    ipureintro
    unfold body_first.sl.r body_first.sl.r_7
    refine (st_M arg5.view f4 _ _ _ _).trans ?_
    rw [g0, g1]
    rfl
  iexists _; isplitr; swap; · iexact H5
  ipureintro
  refine (st_P arg6.view f5 _ _ _).trans ?_
  unfold body_first.sl.v132 body_first.sl.H5_1 body_first.sl.r_5 body_first.sl.r_9 body_first.sl.r_10 body_first.sl.r_11
  rw [View.readCov_cons_toLoadRect]
  unfold body_first.sl.r_1 body_first.sl.r_2 body_first.sl.r_3 body_first.sl.r_6 body_first.sl.r_7 body_first.sl.r_8
  rw [e0, e1, g0, g1]
  rfl

set_option maxHeartbeats 4000000 in
theorem body_later (c : Dev nD) (i : grid0.Coords) (arg1 : Memref sig .tc .vmem S1x2x64x4096 .f32) (harg1 : arg1.IsWhole)
    (arg2 : Memref sig .tc .vmem S2x64x512 .f32) (harg2 : arg2.IsWhole) (arg3 : Memref sig .tc .vmem S1x2x4096x512 .f32) (harg3 : arg3.IsWhole)
    (arg4 : Memref sig .tc .vmem S1x2x4096 .i32) (harg4 : arg4.IsWhole) (arg5 : Memref sig .tc .vmem S2x1x512 .f32) (harg5 : arg5.IsWhole)
    (arg6 : Memref sig .tc .vmem S1x1x1 .f32) (harg6 : arg6.IsWhole) (hc0 : ¬ isFirst i)
    (x0 : Vec F S1x2x64x4096 .f32) (x1 : Vec F S2x64x512 .f32) (p : Vec F S1x1x1 .f32) (E : Set ℕ) (Q : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ owns (c : Thread nD τ) arg6 fullShare p
        ∗ (iprop(owns (c : Thread nD τ) arg1 fullShare x0 ∗ owns (c : Thread nD τ) arg2 fullShare x1
            ∗ owns (c : Thread nD τ) arg3 fullShare (bD x0 x1) ∗ owns (c : Thread nD τ) arg4 fullShare (bG i x0 x1)
            ∗ owns (c : Thread nD τ) arg5 fullShare (bM x1) ∗ owns (c : Thread nD τ) arg6 fullShare (bP x0 x1 p)) -∗ Q ⟨⟩))
      ⊢ wp frame (wpE (defs₀ (F := F)) 𝒱₀ c none) E (cc0__tc_kernel i arg1 harg1 arg2 harg2 arg3 harg3 arg4 harg4 arg5 harg5 arg6 harg6) Q := by
  simp only [cc0__tc_kernel_eq_skeleton]; unfold cc0__tc_kernel_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, Hk⟩
  obtain rfl := harg1.eq_unread hf0; obtain rfl := harg2.eq_unread hf1; obtain rfl := harg6.eq_unread hf5
  sl_exec (disch := first | sl_exact hc0)
  sl_step
  have e0 : arg1.view.readAt (Elt F) (Rect.unit (s := S1x2x64x4096) ![0, 0, 0, 0] S1x1x64x4096.size inb_S1x2x64x4096_S1x1x64x4096_0_0_0_0).toLoadRect (harg1.unread x0) = xAt x0 0 := ld_x arg1 harg1 x0 0 _
  have e1 : arg1.view.readAt (Elt F) (Rect.unit (s := S1x2x64x4096) ![0, 1, 0, 0] S1x1x64x4096.size inb_S1x2x64x4096_S1x1x64x4096_0_1_0_0).toLoadRect (harg1.unread x0) = xAt x0 1 := ld_x arg1 harg1 x0 1 _
  have g0 : arg2.view.readAt (Elt F) (Rect.unit (s := S2x64x512) ![0, 0, 0] S1x64x512.size inb_S2x64x512_S1x64x512_0_0_0).toLoadRect (harg2.unread x1) = mAt x1 0 := ld_m arg2 harg2 x1 0 _
  have g1 : arg2.view.readAt (Elt F) (Rect.unit (s := S2x64x512) ![1, 0, 0] S1x64x512.size inb_S2x64x512_S1x64x512_1_0_0).toLoadRect (harg2.unread x1) = mAt x1 1 := ld_m arg2 harg2 x1 1 _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (st_D arg3.view f2 _ _ _ _).trans ?_
    unfold body_later.sl.r_6 body_later.sl.r_7 body_later.sl.r_8
    rw [e0, e1, g0, g1]
    rfl
  isplitl [H3]
  · iexists _; isplitr; swap; · iexact H3
    ipureintro
    unfold body_later.sl.r_12
    refine (st_G arg4.view f3 _ _ _ _).trans ?_
    unfold body_later.sl.r_4 body_later.sl.r_6 body_later.sl.r_7 body_later.sl.r_8
    rw [e0, e1, g0, g1]
    rfl
  isplitl [H4]
  · iexists _; isplitr; swap; · iexact H4
    ipureintro
    unfold body_later.sl.r body_later.sl.r_7
    refine (st_M arg5.view f4 _ _ _ _).trans ?_
    rw [g0, g1]
    rfl
  iexists _; isplitr; swap; · iexact H5
  ipureintro
  have p0 : arg6.view.readAt (Elt F) (Rect.unit (s := S1x1x1) ![0, 0, 0] S1x1x1.size inb_S1x1x1_S1x1x1_0_0_0).toLoadRect (harg6.unread p) = p := ld_P arg6 harg6 p _
  refine (st_P arg6.view _ _ [] _).trans ?_
  unfold body_later.sl.r_5 body_later.sl.r_9 body_later.sl.r_10 body_later.sl.r_11
  unfold body_later.sl.r_1 body_later.sl.r_2 body_later.sl.r_3 body_later.sl.r_6 body_later.sl.r_7 body_later.sl.r_8
  rw [e0, e1, g0, g1, p0]
  rfl

end Cert.Proof.Run

end
-- ==== Proof.TcRegion.lean ====
/-
  The TensorCore call of the kernel: the pipeline's proof data with the values its body leaves at every grid point, and
  the call as a region of the program, entered and left with the core still owing its SparseCore signals.
-/
module

public import proofs.«01_k».proof.Proof.TcBody
public import Idealize.ShloMosaic.Lib.Pipeline.RegionArrays

@[expose] public section

set_option maxRecDepth 16384

noncomputable section

namespace Cert.Proof.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat BodyObligation BodyObligationLoose)

variable {F : FTy → Type} [FloatOps F]

local notation "𝕄" => MT nD τ sig (HIx 1) (Elt F) ℕ UU ℕ

/-! ## The buffers' contents before the call -/

abbrev op0 : HloOp τ sig (Elt F) := StableHlo.unary main_arg0 main_v0 ((transpose S2x16x64x4096 [0, 1, 3, 2] · transposes_S2x16x4096x64_S2x16x64x4096_0_1_3_2) : (⟨S2x16x4096x64, .f32⟩ : BufTy).Contents (Elt F) → (⟨S2x16x64x4096, .f32⟩ : BufTy).Contents (Elt F))
abbrev op1 : HloOp τ sig (Elt F) := StableHlo.unary main_arg1 main_v1 ((transpose S16x64x512 [0, 2, 1] · transposes_S16x512x64_S16x64x512_0_2_1) : (⟨S16x512x64, .f32⟩ : BufTy).Contents (Elt F) → (⟨S16x64x512, .f32⟩ : BufTy).Contents (Elt F))

variable (m : (ℓ : Loc nD τ sig) → Buf (Elt F) ℓ)

/-- A device's buffers at launch, and after the two transposes. -/
def W0 (d : Dev nD) : Valuation τ sig (Elt F) := fun b => m (d, b)
def W2 (d : Dev nD) : Valuation τ sig (Elt F) := (op1 (F := F)).result ((op0 (F := F)).result (W0 m d))

abbrev Vr (d : Dev nD) (b : Ref sig .tc) : Buf (Elt F) ((d : Thread nD τ).loc b) := W2 m d (Proc.devRef .tc b)

/-- A window's block of its array at a point. -/
def iblk (c : Dev nD) (w : Fin cfg0.W) (t : Fin cfg0.N) : ((cfg0.win w).xblock (cfg0.grid.coords t)).Idx → Elt F (cfg0.win w).elt :=
  ((cfg0.win w).blk t).view.read (Elt F) (Vr m c (Pipeline.arrRef spec0 w))

abbrev xBlk (c : Dev nD) (t : Fin cfg0.N) : Vec F S1x2x64x4096 .f32 := iblk m c 0 t
abbrev mBlk (c : Dev nD) (t : Fin cfg0.N) : Vec F S2x64x512 .f32 := iblk m c 1 t

/-- The running total after the first `n + 1` points. -/
def partAt (c : Dev nD) : (n : ℕ) → n < cfg0.N → Vec F S1x1x1 .f32
  | 0, h => bP (xBlk m c ⟨0, h⟩) (mBlk m c ⟨0, h⟩) k0_pay3
  | n + 1, h => bP (xBlk m c ⟨n + 1, h⟩) (mBlk m c ⟨n + 1, h⟩) (partAt c n (Nat.lt_of_succ_lt h))

/-! ## The pipeline's proof data -/

/-- What the core owes throughout: its signals of the SparseCore call. -/
abbrev owe (c : Dev nD) : CellTallies nD τ sig (HIx 1) := (K (F := F)).Otc (nD := nD) c 0

/-- The waits recorded before the call. -/
def rec0 (c : Dev nD) : Set (SemLoc sig × HIx 1) := {p | (K (F := F)).lev ((SparseCore.T c : Thread nD τ), p.1) p.2 ≤ 0}

def dats (_ : Fin 1) (c : Dev nD) : Dat τ (Elt F) (HIx 1) ℕ UU ℕ cfg0 c where
  A w := Vr m c (Pipeline.arrRef spec0 w)
  after w t := match w with
    | ⟨0, _⟩ => iblk m c 0 t
    | ⟨1, _⟩ => iblk m c 1 t
    | ⟨2, _⟩ => bD (xBlk m c t) (mBlk m c t)
    | ⟨3, _⟩ => bG (grid0.coords t) (xBlk m c t) (mBlk m c t)
    | ⟨4, _⟩ => bM (mBlk m c t)
    | ⟨5, _⟩ => partAt m c t.val t.isLt
  Φ _ := iprop(emp)
  q _ := fullShare
  owed _ := owe (F := F) c
  recorded _ := rec0 (F := F) c

theorem A_eq (c : Dev nD) (w : Fin cfg0.W) : (dats m 0 c).A w = Vr m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = bD (xBlk m c t) (mBlk m c t) := by dsimp only [dats]
theorem after_3 (c : Dev nD) (t : Fin cfg0.N) : (dats m 0 c).after 3 t = bG (grid0.coords t) (xBlk m c t) (mBlk m c t) := by dsimp only [dats]
theorem after_4 (c : Dev nD) (t : Fin cfg0.N) : (dats m 0 c).after 4 t = bM (mBlk m c t) := by dsimp only [dats]
theorem after_5 (c : Dev nD) (t : Fin cfg0.N) : (dats m 0 c).after 5 t = partAt m c t.val t.isLt := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- After the first point the total's buffer still holds what the point before left. -/
theorem before_5 (c : Dev nD) (t : Fin cfg0.N) (h0 : t.val ≠ 0) (d) :
    (dats m 0 c).before 5 t d = partAt m c (t.val - 1) (Nat.lt_of_le_of_lt (Nat.sub_le _ _) t.isLt) := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

theorem partAt_first (c : Dev nD) (t : Fin cfg0.N) (h0 : t.val = 0) :
    partAt m c t.val t.isLt = bP (xBlk m c t) (mBlk m c t) k0_pay3 := by
  obtain ⟨n, hn⟩ := t
  cases n with
  | zero => rfl
  | succ n => exact absurd h0 (Nat.succ_ne_zero n)

theorem partAt_later (c : Dev nD) (t : Fin cfg0.N) (h0 : t.val ≠ 0) :
    partAt m c t.val t.isLt = bP (xBlk m c t) (mBlk m c t) (partAt m c (t.val - 1) (Nat.lt_of_le_of_lt (Nat.sub_le _ _) t.isLt)) := by
  obtain ⟨n, hn⟩ := t
  cases n with
  | zero => exact absurd rfl h0
  | succ n => rfl

/-! ## The body obligation -/

abbrev ms_0 (t : Fin cfg0.N) : Memref sig .tc .vmem S1x2x64x4096 .f32 := win0_0.stage (cfg0.slots t 0)
abbrev ms_1 (t : Fin cfg0.N) : Memref sig .tc .vmem S2x64x512 .f32 := win0_1.stage (cfg0.slots t 1)
abbrev ms_2 (t : Fin cfg0.N) : Memref sig .tc .vmem S1x2x4096x512 .f32 := win0_2.stage (cfg0.slots t 2)
abbrev ms_3 (t : Fin cfg0.N) : Memref sig .tc .vmem S1x2x4096 .i32 := win0_3.stage (cfg0.slots t 3)
abbrev ms_4 (t : Fin cfg0.N) : Memref sig .tc .vmem S2x1x512 .f32 := win0_4.stage (cfg0.slots t 4)
abbrev ms_5 (t : Fin cfg0.N) : Memref sig .tc .vmem S1x1x1 .f32 := win0_5.stage (cfg0.slots t 5)

def bodyPre (c : Dev nD) (t : Fin cfg0.N) : sProp 𝕄 :=
  iprop((dats m 0 c).Φ t.castSucc ∗ (dats m 0 c).owesAt none t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

def bodyPost (c : Dev nD) (t : Fin cfg0.N) : sProp 𝕄 :=
  iprop((dats m 0 c).Φ t.succ ∗ (dats m 0 c).owesAt none t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt none t.succ = (dats m 0 c).owesAt none t.castSucc from rfl,
    after_0, after_1, after_2, after_3, after_4, after_5]
  by_cases h0 : t.val = 0
  · rw [partAt_first m c t h0]
    iintro ⟨HΦ, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ ((isFirst_iff t).mpr h0) (xBlk m c t) (mBlk m c t) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [partAt_later m c t h0]
    simp only [before_5 m c t h0]
    iintro ⟨HΦ, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ (fun h => h0 ((isFirst_iff t).mp h)) (xBlk m c t) (mBlk m c t)
      (partAt m c (t.val - 1) (Nat.lt_of_le_of_lt (Nat.sub_le _ _) t.isLt)) Set.univ _)
    isplitl [H0]; · iexact H0
    isplitl [H1]; · iexact H1
    isplitl [H2]; · iexists _; iexact H2
    isplitl [H3]; · iexists _; iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := rfl

theorem body_obligation (c : Dev nD) : BodyObligation (dats (F := F) m 0 c) (defs₀ (F := F)) 𝒱₀ none Set.univ := fun t => by
  rw [bigSep_W0, bigSep_W0, defs₀_row]
  exact triple_restated (sound_body m c t) rfl .rfl fun _ => .rfl

/-! ## The region -/

abbrev adm : (p : Fin 1) → (pcfgs (F := F) p).Adm := fun p => (cfgs p).toPCfg_adm

theorem owe_none (c : Dev nD) (g : GSem nD τ sig) : owe (F := F) c g none = 0 := by
  by_contra h
  have := SparseCore.Cfg.lev_of_Otc_pos (K := K (F := F)) (d := c) (n := 0) (g := g) (ι := none) (Nat.pos_of_ne_zero h)
  have e : (K (F := F)).lev g none = 0 := rfl
  omega

/-- The contents of the windows' arrays after the call. -/
def arrOut (c : Dev nD) (w : Fin cfg0.W) : Buf (Elt F) ((cfg0.win w).arr.view.loc (c.tc : Thread nD τ)) := (dats m 0 c).arrAt w cfg0.N

/-- A device's buffers after the call. -/
def W3 (d : Dev nD) : Valuation τ sig (Elt F) :=
  Function.update (Function.update (Function.update (Function.update (W2 m d)
    (Proc.devRef .tc main_v2_0) (arrOut m d 2)) (Proc.devRef .tc main_v2_1) (arrOut m d 3))
    (Proc.devRef .tc main_v2_2) (arrOut m d 4)) (Proc.devRef .tc main_v2_3) (arrOut m d 5)

def tcRegion : Pipeline.RegionSeg (pcfgs (F := F)) adm (dats m) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_intro (Pipeline.pin (pcfgs (F := F)) adm) (dats m) none 0 c fun w s t =>
    (K (F := F)).mayWait_none _ (owe_none c)
  pre c := iprop((dats m 0 c).arrays ((dats m 0 c).arrAt · 0)
    ∗ ∃ W, ⌜(K (F := F)).WBelow (SparseCore.T c) W 0⌝ ∗ owes (SparseCore.T c) (owe (F := F) c) W)
  post c := iprop((dats m 0 c).arrays ((dats m 0 c).arrAt · cfg0.N)
    ∗ ∃ W, ⌜(K (F := F)).WBelow (SparseCore.T c) W 0⌝ ∗ owes (SparseCore.T c) (owe (F := F) c) W)
  X _ := iprop(emp)
  Y _ := iprop(emp)
  Z _ := iprop(emp)
  hentry c := by
    rw [Pipeline.ownSems0_none, Pipeline.prefHeld_of_none _ rfl]
    iintro ⟨⟨Ha, ⟨%W, %hW, HO⟩⟩, -, -⟩
    imodintro
    isplitl [Ha]; · iexact Ha
    isplitr; · iempintro
    isplitl [HO]
    · unfold Dat.owesAt Pipeline.owesWithin Dat.bound
      iexists W; isplitr
      · ipureintro; exact fun p hp => Or.inl (hW p hp)
      iexact HO
    isplitr <;> iempintro
  hin c := by
    rw [scopedRest0_eq]
    refine (show _ ⊢ (iprop(emp) : sProp 𝕄) from ?_)
    iintro ⟨-, -, -⟩
    iempintro
  hout c := by
    rw [Pipeline.ownSems0_none, scopedRest0_eq]
    iintro -
    isplitr; · iempintro
    isplitr <;> iempintro
  hexit c := by
    iintro ⟨Ha, HO, -, -⟩
    imodintro
    isplitl [Ha]; · iexact Ha
    unfold Dat.owesAt Pipeline.owesWithin Dat.bound
    icases HO with ⟨%W, %hW, HO⟩
    iexists W; isplitr
    · ipureintro
      intro p hp
      rcases hW hp with h | h
      · exact h
      · obtain ⟨w, s, e⟩ := h
        rw [e]; exact le_rfl
    iexact HO

end Cert.Proof.Run

end
-- ==== Proof.TcMain.lean ====
/-
  The whole program on the TensorCore: the host operations, the TensorCore call, the SparseCore call; and the launch of
  the machine. Stated with every buffer's final contents.
-/
module

public import proofs.«01_k».proof.Proof.ScCall
public import proofs.«01_k».proof.Proof.TcRegion

@[expose] public section

set_option maxRecDepth 16384

noncomputable section

namespace Cert.Proof.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (T)
open Idealize.ShloMosaic.SparseCore.Cfg (HIx)
open Idealize.ShloMosaic.StableHlo (held)
open Idealize.ShloMosaic.Pipeline (ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents after each part -/

abbrev op2 : HloOp τ sig (Elt F) := StableHlo.reshape main_v2_2 main_v3 (rfl : (.f32 : EltTy) = .f32) shapeCasts_S16x1x512_S8192
abbrev op3 : HloOp τ sig (Elt F) := StableHlo.reshape main_v2_1 main_v4 (rfl : (.i32 : EltTy) = .i32) shapeCasts_S16x2x4096_S131072
abbrev op4 : HloOp τ sig (Elt F) := StableHlo.reshape main_v2_3 main_v6 (rfl : (.f32 : EltTy) = .f32) shapeCasts_S1x1x1_S_
abbrev op5 : HloOp τ sig (Elt F) := StableHlo.nullary main_cst (constant S_ .f32 0x00000000#32)
abbrev op6 : HloOp τ sig (Elt F) := StableHlo.binary main_v5 main_cst main_v7 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev op7 : HloOp τ sig (Elt F) := StableHlo.binary main_v6 main_v7 main_v8 (addf : (⟨S_, .f32⟩ : BufTy).Contents (Elt F) → (⟨S_, .f32⟩ : BufTy).Contents (Elt F) → (⟨S_, .f32⟩ : BufTy).Contents (Elt F))
abbrev op8 : HloOp τ sig (Elt F) := StableHlo.nullary main_cst_0 (constant S_ .f32 0x2D51B717#32)
abbrev op9 : HloOp τ sig (Elt F) := StableHlo.binary main_v8 main_cst_0 main_v9 (mulf : (⟨S_, .f32⟩ : BufTy).Contents (Elt F) → (⟨S_, .f32⟩ : BufTy).Contents (Elt F) → (⟨S_, .f32⟩ : BufTy).Contents (Elt F))

def W5 (d : Dev nD) : Valuation τ sig (Elt F) := (op3 (F := F)).result ((op2 (F := F)).result (W3 m d))

/-- The table and the indices the SparseCore call reads, and what its result array holds before it. -/
abbrev tabA (d : Dev nD) : Buf (Elt F) (aLoc d) := W5 m d (Proc.devRef .tc main_v3)
abbrev idxG (d : Dev nD) : Buf (Elt F) (gLoc d) := W5 m d (Proc.devRef .tc main_v4)
abbrev oldO (d : Dev nD) : Buf (Elt F) (oLoc d) := W5 m d (Proc.devRef .tc main_v5)

def W6 (d : Dev nD) : Valuation τ sig (Elt F) := Function.update (W5 m d) (Proc.devRef .tc main_v5) (laneSums (tabA m d) (idxG m d))

def W12 (d : Dev nD) : Valuation τ sig (Elt F) :=
  (op9 (F := F)).result ((op8 (F := F)).result ((op7 (F := F)).result ((op6 (F := F)).result ((op5 (F := F)).result ((op4 (F := F)).result (W6 m d))))))

/-! ## One host operation -/

abbrev Pm := P (F := F) (tabA m) (idxG m) (oldO m)

theorem host (d : Dev nD) (op : HloOp τ sig (Elt F)) (hS : op.bufs ⊆ ucRefs τ sig) (hf : op.fresh = ∅) (V : Valuation τ sig (Elt F))
    (Q : PUnit → sProp 𝕄) :
    iprop(boundary (T d) ∗ (held (T d) (ucRefs τ sig) V : sProp 𝕄) ∗ ((boundary (T d) ∗ (held (T d) (ucRefs τ sig) (op.result V) : sProp 𝕄)) -∗ Q ⟨⟩))
      ⊢ wp frame (wpE ((K (F := F)).defs (D (F := F))) 𝒱 (T d) none) Set.univ (hlo rfl op fun _ => .ret ⟨⟩) Q := by
  iintro ⟨Hb, Hh, Hk⟩
  iapply (StableHlo.wp_hlo_within 𝒱 (T d) none Set.univ hS hf) $$ [Hb Hh]
  · isplitl [Hb]; · iexact Hb
    iexact Hh
  iintro H
  rw [wp_ret]
  imodintro
  iapply Hk; iexact H

/-! ## The TensorCore call -/

abbrev EP : Emb UP 𝕄 := (Emb.inl : Emb UP (UP × Counters)).trans embR

instance EP_landsIn : (EP (F := F)).LandsIn (upEmb : UEmb _ 𝕄) := by unfold EP embR; infer_instance

theorem hinj : Function.Injective (Pipeline.cellOf (nD := nD) (τ := τ) (Pipeline.pin (pcfgs (F := F)) adm)) := cellOf_inj

/-- The staging cells' ghost state. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

theorem arr_sub : Pipeline.arrRefs (τ := τ) (pcfgs (F := F) 0).spec ⊆ ucRefs τ sig :=
  Pipeline.arrRefs_sub_ucRefs spec0 (by decide)

theorem share_full (c : Dev nD) (w : Fin cfg0.W) : (dats m 0 c).share w = fullShare := (dats m 0 c).share_full (fun _ => rfl) w

theorem arrays_in (d : Dev nD) : ((dats m 0 d).arrays ((dats m 0 d).arrAt · 0) : sProp 𝕄)
    = held (T d) (Pipeline.arrRefs (τ := τ) (pcfgs (F := F) 0).spec) (W2 m d) :=
  Pipeline.arrays_held (pcfgs (F := F)) adm (dats m) 0 launch0.toP d (share_full m d) _ _ fun w => rfl

theorem W3_v2_3 (d : Dev nD) : W3 m d (Proc.devRef .tc main_v2_3) = arrOut m d 5 := Function.update_self _ _ _

theorem W3_v2_2 (d : Dev nD) : W3 m d (Proc.devRef .tc main_v2_2) = arrOut m d 4 := by
  unfold W3
  rw [Function.update_of_ne (by decide), Function.update_self]

theorem W3_v2_1 (d : Dev nD) : W3 m d (Proc.devRef .tc main_v2_1) = arrOut m d 3 := by
  unfold W3
  rw [Function.update_of_ne (by decide), Function.update_of_ne (by decide), Function.update_self]

theorem W3_v2_0 (d : Dev nD) : W3 m d (Proc.devRef .tc main_v2_0) = arrOut m d 2 := by
  unfold W3
  rw [Function.update_of_ne (by decide), Function.update_of_ne (by decide), Function.update_of_ne (by decide), Function.update_self]

theorem W3_of_ne (d : Dev nD) {b : DevRef τ sig} (h0 : b ≠ Proc.devRef .tc main_v2_0) (h1 : b ≠ Proc.devRef .tc main_v2_1)
    (h2 : b ≠ Proc.devRef .tc main_v2_2) (h3 : b ≠ Proc.devRef .tc main_v2_3) : W3 m d b = W2 m d b := by
  unfold W3
  rw [Function.update_of_ne h3, Function.update_of_ne h2, Function.update_of_ne h1, Function.update_of_ne h0]

theorem W3_at (d : Dev nD) (w : Fin cfg0.W) : (dats m 0 d).arrAt w cfg0.N = W3 m d (Proc.devRef .tc (Pipeline.arrRef spec0 w)) := by
  match w with
  | ⟨0, _⟩ => exact ((dats m 0 d).arrAt_in 0 rfl _).trans (W3_of_ne m d (b := Proc.devRef .tc main_v0) (by decide) (by decide) (by decide) (by decide)).symm
  | ⟨1, _⟩ => exact ((dats m 0 d).arrAt_in 1 rfl _).trans (W3_of_ne m d (b := Proc.devRef .tc main_v1) (by decide) (by decide) (by decide) (by decide)).symm
  | ⟨2, _⟩ => exact (W3_v2_0 m d).symm
  | ⟨3, _⟩ => exact (W3_v2_1 m d).symm
  | ⟨4, _⟩ => exact (W3_v2_2 m d).symm
  | ⟨5, _⟩ => exact (W3_v2_3 m d).symm

theorem arrays_out (d : Dev nD) : ((dats m 0 d).arrays ((dats m 0 d).arrAt · cfg0.N) : sProp 𝕄)
    = held (T d) (Pipeline.arrRefs (τ := τ) (pcfgs (F := F) 0).spec) (W3 m d) :=
  Pipeline.arrays_held (pcfgs (F := F)) adm (dats m) 0 launch0.toP d (share_full m d) _ _ (W3_at m d)

theorem mem_arr (w : Fin cfg0.W) : (Proc.devRef .tc (Pipeline.arrRef spec0 w) : DevRef τ sig) ∈ Pipeline.arrRefs (τ := τ) (pcfgs (F := F) 0).spec :=
  Finset.mem_map_of_mem _ (Finset.mem_image_of_mem _ (Finset.mem_univ w))

/-- The buffers that are no window's array keep their contents. -/
theorem rest_out (d : Dev nD) :
    (held (T d) (ucRefs τ sig \ Pipeline.arrRefs (τ := τ) (pcfgs (F := F) 0).spec) (W3 m d) : sProp 𝕄)
      = held (T d) (ucRefs τ sig \ Pipeline.arrRefs (τ := τ) (pcfgs (F := F) 0).spec) (W2 m d) :=
  StableHlo.held_congr (T d) fun b hb => by
    have hb' := (Finset.mem_sdiff.mp hb).2
    have ne : ∀ w : Fin cfg0.W, b ≠ Proc.devRef .tc (Pipeline.arrRef spec0 w) := fun w e => hb' (e ▸ mem_arr (F := F) w)
    exact W3_of_ne m d (ne 2) (ne 3) (ne 4) (ne 5)

theorem region_step [∀ e, Nonempty (Elt F e)] (d : Dev nD) (Q : PUnit.{1} → sProp 𝕄) :
    iprop(levAts (K (F := F)).L (K (F := F)).lev ∗ boundary (T d) ∗ (held (T d) (ucRefs τ sig) (W2 m d) : sProp 𝕄) ∗ (K (F := F)).tcSt EH d 0 ∗ ghost d
        ∗ ((boundary (T d) ∗ (held (T d) (ucRefs τ sig) (W3 m d) : sProp 𝕄) ∗ (K (F := F)).tcSt EH d 0) -∗ Q ⟨⟩))
      ⊢ wp frame (wpE ((K (F := F)).defs (D (F := F))) 𝒱 (T d) none) Set.univ (Prog.lift (.customCall (SparseCore.inner (Pipeline.entry 0)) ())) Q := by
  have h := Pipeline.RegionSeg.wp (pcfgs (F := F)) adm (dats m) none hinj EP (defs₀ (F := F)) 𝒱₀ (K (F := F)).L (K (F := F)).lev
    (tcRegion m) d none (by intro u hu; cases hu) (fun _ => .ret (⟨⟩ : PUnit.{1})) Q
  have h2 := h.trans ((K (F := F)).wp_liftProg (D (F := F)) 𝒱 (T d) Set.univ none
    (.op (.customCall (Pipeline.entry 0) ()) fun _ => .ret (⟨⟩ : PUnit.{1})) Q)
  refine BIBase.Entails.trans ?_ h2
  rw [show (tcRegion m).post d = iprop((dats m 0 d).arrays ((dats m 0 d).arrAt · cfg0.N)
      ∗ ∃ W, ⌜(K (F := F)).WBelow (SparseCore.T d) W 0⌝ ∗ owes (SparseCore.T d) (owe (F := F) d) W) from rfl,
    show (tcRegion m).pre d = iprop((dats m 0 d).arrays ((dats m 0 d).arrAt · 0)
      ∗ ∃ W, ⌜(K (F := F)).WBelow (SparseCore.T d) W 0⌝ ∗ owes (SparseCore.T d) (owe (F := F) d) W) from rfl]
  rw [StableHlo.held_sub_split (T d) (arr_sub (F := F)) (W2 m d), StableHlo.held_sub_split (T d) (arr_sub (F := F)) (W3 m d), rest_out,
    ← arrays_in, ← arrays_out]
  unfold SparseCore.Cfg.tcSt
  iintro ⟨HL, Hb, ⟨Ha, Hr⟩, ⟨⟨%W, %hW, HO⟩, Hst⟩, ⟨Hg, Ht⟩, Hk⟩
  isplitl [Hk Hr Hst]
  · iintro ⟨Hb, Hpost⟩
    rw [wp_ret]
    imodintro
    iapply Hk
    isplitl [Hb]; · iexact Hb
    icases Hpost with ⟨Ha, ⟨%W', %hW', HO⟩⟩
    isplitl [Ha Hr]
    · isplitl [Ha]; · iexact Ha
      iexact Hr
    isplitl [HO]
    · iexists W'; isplitr
      · ipureintro; exact hW'
      iexact HO
    iexact Hst
  isplitl [Hb]; · iexact Hb
  isplitl [Ha HO]
  · isplitl [Ha]; · iexact Ha
    iexists W; isplitr
    · ipureintro; exact hW
    iexact HO
  isplitl [HL]; · iexact HL
  isplitl [Hg]; · iexact Hg
  iexact Ht

/-! ## The SparseCore call -/

abbrev scRefs : Finset (DevRef τ sig) := {Proc.devRef .tc main_v3, Proc.devRef .tc main_v4, Proc.devRef .tc main_v5}

theorem sc_sub : scRefs ⊆ ucRefs τ sig := by decide

theorem held_sc (d : Dev nD) (V : Valuation τ sig (Elt F)) :
    (held (T d) scRefs V : sProp 𝕄) = iprop(aPts d fullShare (V (Proc.devRef .tc main_v3)) ∗ gPts d fullShare (V (Proc.devRef .tc main_v4)) ∗ oAll d (V (Proc.devRef .tc main_v5))) := by
  unfold held
  rw [SparseCore.bigSep_insert' (by decide), SparseCore.bigSep_insert' (by decide), bigSep_singleton]

theorem sc_out (d : Dev nD) : (held (T d) (ucRefs τ sig \ scRefs) (W6 m d) : sProp 𝕄) = held (T d) (ucRefs τ sig \ scRefs) (W5 m d) :=
  StableHlo.held_congr (T d) fun b hb => by
    have hb' := (Finset.mem_sdiff.mp hb).2
    have hne : b ≠ Proc.devRef .tc main_v5 := fun e => hb' (by rw [e]; decide)
    unfold W6
    rw [Function.update_of_ne hne]

theorem W6_sc (d : Dev nD) : W6 m d (Proc.devRef .tc main_v3) = tabA m d ∧ W6 m d (Proc.devRef .tc main_v4) = idxG m d
    ∧ W6 m d (Proc.devRef .tc main_v5) = laneSums (tabA m d) (idxG m d) := by
  unfold W6
  refine ⟨Function.update_of_ne (by decide) _ _, Function.update_of_ne (by decide) _ _, Function.update_self _ _ _⟩

theorem call_step (κ : GSem nD τ sig → ℕ) (d : Dev nD) (Q : PUnit → sProp 𝕄) :
    iprop((K (F := F)).ctx EH (Pm m) κ ∗ (held (T d) (ucRefs τ sig) (W5 m d) : sProp 𝕄) ∗ (K (F := F)).tcSt EH d 0
        ∗ (((held (T d) (ucRefs τ sig) (W6 m d) : sProp 𝕄) ∗ (K (F := F)).tcSt EH d 1) -∗ Q ⟨⟩))
      ⊢ wp frame (wpE ((K (F := F)).defs (D (F := F))) 𝒱 (T d) none) Set.univ ((K (F := F)).run d 0) Q := by
  rw [StableHlo.held_sub_split (T d) sc_sub (W5 m d), StableHlo.held_sub_split (T d) sc_sub (W6 m d), sc_out, held_sc, held_sc,
    (W6_sc m d).1, (W6_sc m d).2.1, (W6_sc m d).2.2]
  iintro ⟨Hctx, ⟨Hs, Hr⟩, Hst, Hk⟩
  iapply ((K (F := F)).wp_run (D (F := F)) 𝒱 (EH := EH) (P := Pm m) κ d 0) $$ [Hctx Hs Hr Hst Hk]
  isplitl [Hctx]; · iexact Hctx
  isplitl [Hst]; · iexact Hst
  isplitl [Hs]
  · rw [st_eq]; iexact Hs
  iintro ⟨Hst, Hdn⟩
  ihave Hdn' := (Entails.of_eq (dn_eq (tabA m) (idxG m) (oldO m) d)) $$ Hdn
  iapply Hk
  isplitl [Hdn' Hr]
  · isplitl [Hdn']; · iexact Hdn'
    iexact Hr
  iexact Hst

/-! ## @main -/

abbrev FIN (d : Dev nD) : sProp 𝕄 := held (T d) (ucRefs τ sig) (W12 m d)

theorem sub_uc (op : HloOp τ sig (Elt F)) (h : op.bufs ⊆ StableHlo.tcRefs τ sig) : op.bufs ⊆ ucRefs τ sig := Pipeline.sub_ucRefs op h

theorem bufs0 (d : Dev nD) : (unscopedBufs d (fun b => m ((SparseCore.T d).loc b)) : sProp 𝕄) = held (T d) (ucRefs τ sig) (W0 m d) := by
  have h := Pipeline.unscopedBufs_held (Ix := HIx 1) (Name := ℕ) (U := UU) (Lvl := ℕ) d (W0 m d)
  exact h

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [bufs0 m d]
  simp only [main, wp_bind, wp_pure]
  iintro ⟨#Hctx, Hst, ⟨Hb, Hh, Hts, -⟩, HG⟩
  iapply (host d (op0 (F := F)) (sub_uc _ (StableHlo.unary_bufs_sub ..)) rfl (W0 m d) _)
  isplitl [Hb]; · iexact Hb
  isplitl [Hh]; · iexact Hh
  iintro ⟨Hb, Hh⟩
  iapply (host d (op1 (F := F)) (sub_uc _ (StableHlo.unary_bufs_sub ..)) rfl _ _)
  isplitl [Hb]; · iexact Hb
  isplitl [Hh]; · iexact Hh
  iintro ⟨Hb, Hh⟩
  iapply (region_step m d _)
  ihave #HL := (SparseCore.Cfg.ctx_levAts κ) $$ Hctx
  isplitr; · iexact HL
  isplitl [Hb]; · iexact Hb
  isplitl [Hh]; · iexact Hh
  isplitl [Hst]; · iexact Hst
  isplitl [HG]; · iexact HG
  iintro ⟨Hb, Hh, Hst⟩
  iapply (host d (op2 (F := F)) (sub_uc _ (StableHlo.reshape_bufs_sub ..)) rfl _ _)
  isplitl [Hb]; · iexact Hb
  isplitl [Hh]; · iexact Hh
  iintro ⟨Hb, Hh⟩
  iapply (host d (op3 (F := F)) (sub_uc _ (StableHlo.reshape_bufs_sub ..)) rfl _ _)
  isplitl [Hb]; · iexact Hb
  isplitl [Hh]; · iexact Hh
  iintro ⟨Hb, Hh⟩
  iapply (call_step m κ d _)
  isplitr; · iexact Hctx
  isplitl [Hh]; · iexact Hh
  isplitl [Hst]; · iexact Hst
  iintro ⟨Hh, Hst⟩
  iapply (host d (op4 (F := F)) (sub_uc _ (StableHlo.reshape_bufs_sub ..)) rfl _ _)
  isplitl [Hb]; · iexact Hb
  isplitl [Hh]; · iexact Hh
  iintro ⟨Hb, Hh⟩
  iapply (host d (op5 (F := F)) (sub_uc _ (StableHlo.nullary_bufs_sub ..)) rfl _ _)
  isplitl [Hb]; · iexact Hb
  isplitl [Hh]; · iexact Hh
  iintro ⟨Hb, Hh⟩
  iapply (host d (op6 (F := F)) (sub_uc _ (StableHlo.binary_bufs_sub ..)) rfl _ _)
  isplitl [Hb]; · iexact Hb
  isplitl [Hh]; · iexact Hh
  iintro ⟨Hb, Hh⟩
  iapply (host d (op7 (F := F)) (sub_uc _ (StableHlo.binary_bufs_sub ..)) rfl _ _)
  isplitl [Hb]; · iexact Hb
  isplitl [Hh]; · iexact Hh
  iintro ⟨Hb, Hh⟩
  iapply (host d (op8 (F := F)) (sub_uc _ (StableHlo.nullary_bufs_sub ..)) rfl _ _)
  isplitl [Hb]; · iexact Hb
  isplitl [Hh]; · iexact Hh
  iintro ⟨Hb, Hh⟩
  iapply (host d (op9 (F := F)) (sub_uc _ (StableHlo.binary_bufs_sub ..)) rfl _ _)
  isplitl [Hb]; · iexact Hb
  isplitl [Hh]; · iexact Hh
  iintro ⟨Hb, Hh⟩
  imodintro
  isplitl [Hst]; · iexact Hst
  isplitl [Hh]; · iexact Hh
  isplitl [Hb]; · iexact Hb
  iexact Hts

/-! ## The launch -/

def u₀ : UU := (initOf (K (F := F)).hsCells (K (F := F)).hsToks,
  (initOf (Pipeline.cells (Pipeline.pin (pcfgs (F := F)) adm) hinj) (Pipeline.launchToks (Pipeline.pin (pcfgs (F := F)) adm) hinj), 1))

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP hinj) $$ HP with ⟨Hg, Ht⟩
  imodintro
  isplitl [HH]; · iexact HH
  isplitl [Hg Ht]
  · rw [bigSep_sep']
    isplitl [Hg]
    · iapply (Entails.of_eq (bigSep_congr fun c _ => bigSep_univ_of_subsingleton (Φ := fun p : Fin 1 => (Pipeline.cellsGhost (Pipeline.pin (pcfgs (F := F)) adm) EP p c : sProp 𝕄)) 0)) $$ Hg
    · iapply (Entails.of_eq (bigSep_congr fun c _ => bigSep_univ_of_subsingleton (Φ := fun p : Fin 1 => (Pipeline.toksInit (Pipeline.pin (pcfgs (F := F)) adm) EP p c : sProp 𝕄)) 0)) $$ Ht
  show _ ⊢ (bigSep Finset.univ fun thr : Thread nD τ => bigSep Finset.univ fun q : Fin 1 => (iprop(emp) : sProp 𝕄))
  rw [show (fun thr : Thread nD τ => bigSep Finset.univ fun q : Fin 1 => (iprop(emp) : sProp 𝕄)) = fun _ => iprop(emp)
    from funext fun _ => emps _, emps]

def fq (d : Dev nD) (s' : Phys nD τ sig (Elt F)) : Prop := ∀ b ∈ ucRefs τ sig, s'.mem.mem (d, b) = W12 m d b

theorem hfin (d : Dev nD) (s' : Phys nD τ sig (Elt F)) : iprop(FIN m d ∗ SI s') ⊢ (⌜fq m d s'⌝ : sProp 𝕄) := by
  unfold fq
  refine BIBase.Entails.trans ?_ (Laws.pure_forall (PROP := sProp 𝕄)).2
  refine Laws.forall_intro fun b => BIBase.Entails.trans ?_ (Laws.pure_forall (PROP := sProp 𝕄)).2
  refine Laws.forall_intro fun hb => ?_
  rw [show FIN m d = held (T d) (ucRefs τ sig) (W12 m d) from rfl, StableHlo.held_sub_split (T d) (Finset.singleton_subset_iff.mpr hb) (W12 m d)]
  unfold held
  rw [bigSep_singleton]
  iintro ⟨⟨H, -⟩, HSI⟩
  ihave H := (SI_pointsTo_agree (st := s') (ℓ := (d, b)) (I := Finset.univ) (q := fullShare) (f := W12 m d b)) $$ [HSI H]
  · isplitl [HSI] <;> iassumption
  icases H with %h
  ipureintro; exact Buf.eq_of_forall_mem_univ h

theorem run_main [∀ e, Nonempty (Elt F e)] (hG : ∀ d j, (idxG m d j).toNat < 8192) :
    θ_run (defs (F := F)) (threads (F := F)) ⟨m, fun _ => 0, ρ⟩ (fun r => (∀ d : Dev nD, ∀ b ∈ ucRefs τ sig, r.2.mem (d, b) = W12 m d b) ∧ r.2.sem = fun _ => 0) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tabA m) (idxG m) (oldO m) hG)
    (fun q _ => match q with | 0 => SparseCore.Cfg.VecSplit.of_plain (vecSplit (tabA m) (idxG m) (oldO m)))
    m ρ main (fun d => ghost (F := F) d) (FIN m) (u₀ (F := F)) (sep_elim_left.trans (hu₀ m)) (hmain m ρ) (fq m) (hfin m) _ (fun _ h hz => ⟨h, hz⟩)

end Cert.Proof.Run

end
-- ==== Proof.TcPoint.lean ====
module

public import proofs.«01_k».proof.Proof.TcRegion
public import Idealize.ShloMosaic.Lib.Pointwise
public import Idealize.ShloMosaic.Lib.IdealHost

/-! What the main call's body computes of one head's blocks, read at one index over the exact reals. -/

@[expose] public section

set_option maxRecDepth 16384

noncomputable section

namespace Cert.Proof.Run

open Cert.KernelIdeal Cert.KernelIdeal.Gen
open Idealize.ShloMosaic

/-- The small positive number the norms are kept above. -/
abbrev eps : EReal := Ideal.ofBits FTy.f32 730643660#32

section
variable (v1 : Vec Ideal S1x1x64x4096 .f32) (v3 : Vec Ideal S1x64x512 .f32)

/-- Squared norm of one position's vector. -/
def ssq (l : Fin 4096) : EReal := ∑ x : Fin 64, v1 (ix4 0 0 x l) * v1 (ix4 0 0 x l)

/-- One over the norm, kept above `eps`. -/
def rnorm (l : Fin 4096) : EReal := Ideal.div 1 (max (Ideal.sqrt (ssq v1 l)) eps)

/-- Dot product of one position's normalized vector with one mean, the mean first. -/
def dotT (c : Fin 512) (l : Fin 4096) : EReal :=
  ∑ x : Fin 64, v3 (ix3 0 x c) * (v1 (ix4 0 0 x l) * rnorm v1 l)

/-- The same product, the vector first. -/
def dotN (l : Fin 4096) (c : Fin 512) : EReal :=
  ∑ x : Fin 64, v1 (ix4 0 0 x l) * rnorm v1 l * v3 (ix3 0 x c)

/-- The largest of one position's dot products. -/
def dotMax (l : Fin 4096) : EReal :=
  Finset.fold max (Ideal.ofBits FTy.f32 4286578688#32) (fun c => dotT v1 v3 c l) Finset.univ

/-- The least mean whose dot product is the largest. -/
def pick (l : Fin 4096) : BitVec 32 :=
  Finset.fold IntOp.minsi (2147483647#32)
    (fun c : Fin 512 => if dotT v1 v3 c l = dotMax v1 v3 l then BitVec.ofNat 32 c.val else 512#32)
    Finset.univ

/-- Squared norm of one mean. -/
def msq (c : Fin 512) : EReal := ∑ x : Fin 64, v3 (ix3 0 x c) * v3 (ix3 0 x c)

theorem pay8_at (l : Fin 4096) : k0_pay8 v1 (ix2 0 l) = ssq v1 l := by
  pointwise [k0_pay8, k0_pay6]
  rfl

theorem pay9_at (l : Fin 4096) : k0_pay9 v1 (ix2 0 l) = rnorm v1 l := by
  pointwise [k0_pay9]
  rw [pay8_at]; rfl

theorem pay12_at (c : Fin 512) (l : Fin 4096) : k0_pay12 v1 v3 (ix2 c l) = dotT v1 v3 c l := by
  pointwise [k0_pay12, k0_pay10, k0_pay7, k0_pay6]
  simp only [pay9_at, dotT]

theorem pay11_at (l : Fin 4096) (c : Fin 512) :
    k0_pay11 v1 v3 (ix4 0 0 l c) = dotN v1 v3 l c := by
  pointwise [k0_pay11, k0_pay10, k0_pay7, k0_pay6]
  simp only [pay9_at, dotN]

theorem pay13_at (l : Fin 4096) : k0_pay13 v1 v3 (ix2 0 l) = dotMax v1 v3 l := by
  pointwise [k0_pay13]
  simp only [pay12_at, dotMax]

theorem pay14_at (l : Fin 4096) : k0_pay14 v1 v3 (ix1 l) = pick v1 v3 l := by
  pointwise [k0_pay14]
  simp only [pay12_at, pay13_at, pick]

theorem pay16_at (c : Fin 512) : k0_pay16 (k0_pay7 v3) (ix3 0 0 c) = msq v3 c := by
  pointwise [k0_pay16, k0_pay7]
  rfl
end

theorem pay4_at (a : FVec Ideal S1x1 .f32) (b c d : FVec Ideal S1x4096 .f32)
    (e : Vec Ideal S1x1x1 .f32) :
    k0_pay4 a b c d e (ix3 0 0 0) = e (ix3 0 0 0) + (a (ix2 0 0) +
      ((∑ l : Fin 4096, b (ix2 0 l) * c (ix2 0 l) * c (ix2 0 l)) -
        Ideal.ofBits FTy.f32 1073741824#32 * ∑ l : Fin 4096, d (ix2 0 l))) := by
  pointwise [k0_pay4]
  simp

theorem pay17_at (a : FVec Ideal S1x1 .f32) (b c d : FVec Ideal S1x4096 .f32) :
    k0_pay17 a b c d (ix2 0 0) = a (ix2 0 0) +
      ((∑ l : Fin 4096, b (ix2 0 l) * c (ix2 0 l) * c (ix2 0 l)) -
        Ideal.ofBits FTy.f32 1073741824#32 * ∑ l : Fin 4096, d (ix2 0 l)) := by
  pointwise [k0_pay17]
  simp

/-- The head's place of 512 means, as the body computes it from the grid point's number. -/
theorem off_even (i : Fin 16) :
    Scalar.muli (Scalar.addi (Scalar.muli (Scalar.select (Scalar.andi (Scalar.xori
        (Scalar.cmpi .slt (Scalar.remsi (BitVec.ofNat 32 i.val) 8#32) 0#32) (Scalar.cmpi .slt 8#32 0#32))
        (Scalar.cmpi .ne (Scalar.remsi (BitVec.ofNat 32 i.val) 8#32) 0#32))
        (Scalar.addi (Scalar.remsi (BitVec.ofNat 32 i.val) 8#32) 8#32)
        (Scalar.remsi (BitVec.ofNat 32 i.val) 8#32)) 2#32) 0#32) 512#32
      = BitVec.ofNat 32 ((2 * (i.val % 8)) * 512) := by
  revert i; decide +kernel

theorem off_odd (i : Fin 16) :
    Scalar.muli (Scalar.addi (Scalar.muli (Scalar.select (Scalar.andi (Scalar.xori
        (Scalar.cmpi .slt (Scalar.remsi (BitVec.ofNat 32 i.val) (Scalar.select (Scalar.cmpi .eq 8#32 0#32) 1#32 8#32)) 0#32)
        (Scalar.cmpi .slt (Scalar.select (Scalar.cmpi .eq 8#32 0#32) 1#32 8#32) 0#32))
        (Scalar.cmpi .ne (Scalar.remsi (BitVec.ofNat 32 i.val) (Scalar.select (Scalar.cmpi .eq 8#32 0#32) 1#32 8#32)) 0#32))
        (Scalar.addi (Scalar.remsi (BitVec.ofNat 32 i.val) (Scalar.select (Scalar.cmpi .eq 8#32 0#32) 1#32 8#32))
          (Scalar.select (Scalar.cmpi .eq 8#32 0#32) 1#32 8#32))
        (Scalar.remsi (BitVec.ofNat 32 i.val) (Scalar.select (Scalar.cmpi .eq 8#32 0#32) 1#32 8#32))) 2#32) 1#32) 512#32
      = BitVec.ofNat 32 ((2 * (i.val % 8) + 1) * 512) := by
  revert i; decide +kernel

theorem pay15_at (a : IVec S4096 32) (i : grid0.Coords) (hi : (i 0).val < 16) (l : Fin 4096) :
    k0_pay15 a 8#32 (Scalar.remsi (pt i) 8#32) (Scalar.cmpi .ne (Scalar.remsi (pt i) 8#32) 0#32)
      (Scalar.cmpi .slt (Scalar.remsi (pt i) 8#32) 0#32) (ix3 0 0 l)
      = a (ix1 l) + BitVec.ofNat 32 ((2 * ((i 0).val % 8)) * 512) := by
  pointwise [k0_pay15]
  exact congrArg (a (ix1 l) + ·) (off_even ⟨(i 0).val, hi⟩)

theorem pay27_at (v1 : Vec Ideal S1x1x64x4096 .f32) (v3 : Vec Ideal S1x64x512 .f32) (i : grid0.Coords)
    (hi : (i 0).val < 16) (l : Fin 4096) :
    k0_pay1 (k0_pay27 (pt i) (k0_pay18 v1) (k0_pay19 v3) (k0_pay20 v1)) (ix3 0 0 l)
      = pick v1 v3 l + BitVec.ofNat 32 ((2 * ((i 0).val % 8) + 1) * 512) := by
  have e : ∀ l : Fin 4096, k0_pay27 (pt i) (k0_pay18 v1) (k0_pay19 v3) (k0_pay20 v1) (ix1 l)
      = k0_pay14 v1 v3 (ix1 l) + BitVec.ofNat 32 ((2 * ((i 0).val % 8) + 1) * 512) := fun l =>
    congrArg (k0_pay14 v1 v3 (ix1 l) + ·) (off_odd ⟨(i 0).val, hi⟩)
  pointwise [k0_pay1]
  rw [e, pay14_at]

end Cert.Proof.Run

end
-- ==== Proof.TcArrays.lean ====
module

public import proofs.«01_k».proof.Proof.TcPoint
public import Idealize.ShloMosaic.Lib.Pipeline.ValueKit

/-! The main call's arrays after the run, over the exact reals, as functions of the two arguments. -/

@[expose] public section

set_option maxRecDepth 16384

noncomputable section

namespace Cert.Proof.Run

open Cert.KernelIdeal Cert.KernelIdeal.Gen
open Idealize.ShloMosaic Idealize.ShloMosaic.TcCoe
open Idealize.ShloMosaic.Pipeline (Dat)

/-- One head's vectors, one to a column. -/
def xs (X : Vec Ideal S2x16x4096x64 .f32) (b : Fin 2) (h : Fin 16) : Vec Ideal S1x1x64x4096 .f32 :=
  fun y => X (ix4 b h (y 3) (y 2))

/-- One head's means, one to a column. -/
def ms (M : Vec Ideal S16x512x64 .f32) (h : Fin 16) : Vec Ideal S1x64x512 .f32 :=
  fun y => M (ix3 h (y 2) (y 1))

variable (m : (ℓ : Loc nD τ sig) → Buf (Elt Ideal) ℓ) (c : Dev nD)

abbrev argX : Vec Ideal S2x16x4096x64 .f32 := m ((c : Thread nD τ).loc main_arg0)
abbrev argM : Vec Ideal S16x512x64 .f32 := m ((c : Thread nD τ).loc main_arg1)

theorem Vr_v0 : Vr m c main_v0 = transpose S2x16x64x4096 [0, 1, 3, 2] (argX m c) transposes_S2x16x4096x64_S2x16x64x4096_0_1_3_2 := by
  refine ((op1 (F := Ideal)).result_of_not_mem _ ?_).trans ((StableHlo.unary_result' _ _ _ _).trans rfl)
  rw [StableHlo.unary_writes, Finset.mem_singleton]; exact StableHlo.devRef_ne_of_ne (by decide)

theorem Vr_v1 : Vr m c main_v1 = transpose S16x64x512 [0, 2, 1] (argM m c) transposes_S16x512x64_S16x64x512_0_2_1 := by
  refine (StableHlo.unary_result' _ _ _ _).trans (congrArg (transpose S16x64x512 [0, 2, 1] · transposes_S16x512x64_S16x64x512_0_2_1)
    ((op0 (F := Ideal)).result_of_not_mem _ ?_))
  rw [StableHlo.unary_writes, Finset.mem_singleton]; exact StableHlo.devRef_ne_of_ne (by decide)

theorem point_lt (t : Fin cfg0.N) : t.val < 16 := lt_of_lt_of_eq t.isLt N_0

theorem coord_eq (t : Fin cfg0.N) : (grid0.coords t 0).val = t.val := by
  revert t; decide +kernel

theorem idx (t : Fin cfg0.N) :
    win0_0.index t = ![t.val / 8, t.val % 8, 0, 0] ∧ win0_1.index t = ![t.val % 8, 0, 0]
    ∧ win0_2.index t = ![t.val / 8, t.val % 8, 0, 0] ∧ win0_3.index t = ![t.val, 0, 0]
    ∧ win0_4.index t = ![t.val % 8, 0, 0] ∧ win0_5.index t = ![0, 0, 0] := by
  revert t; decide +kernel

/-- The batch and the head that a grid point's block of two heads holds. -/
def bOf (t : Fin cfg0.N) : Fin 2 := ⟨t.val / 8, by have := point_lt t; omega⟩
def hOf (t : Fin cfg0.N) (e : Fin 2) : Fin 16 := ⟨2 * (t.val % 8) + e.val, by have := e.isLt; omega⟩

theorem xBlk_at (t : Fin cfg0.N) (e : Fin 2) (d : Fin 64) (l : Fin 4096) :
    xBlk m c t (ix4 0 e d l) = argX m c (ix4 (bOf t) (hOf t e) l d) := by
  have h0 := (idx t).1
  have : xBlk m c t (ix4 0 e d l) = Vr m c main_v0 (ix4 (bOf t) (hOf t e) d l) := by
    blk_ext [iblk, bOf, hOf, h0]
  rw [this, Vr_v0]
  pointwise

theorem mBlk_at (t : Fin cfg0.N) (e : Fin 2) (d : Fin 64) (k : Fin 512) :
    mBlk m c t (ix3 e d k) = argM m c (ix3 (hOf t e) k d) := by
  have h0 := (idx t).2.1
  have : mBlk m c t (ix3 e d k) = Vr m c main_v1 (ix3 (hOf t e) d k) := by
    blk_ext [iblk, hOf, h0]
  rw [this, Vr_v1]
  pointwise

theorem xAt_eq (t : Fin cfg0.N) (e : Fin 2) : xAt (xBlk m c t) e = xs (argX m c) (bOf t) (hOf t e) := by
  funext y
  exact (congrArg (xBlk m c t) (ix4_eq_valueIdx 0 e (y 2) (y 3)).symm).trans (xBlk_at m c t e (y 2) (y 3))

theorem mAt_eq (t : Fin cfg0.N) (e : Fin 2) : mAt (mBlk m c t) e = ms (argM m c) (hOf t e) := by
  funext y
  exact (congrArg (mBlk m c t) (ix3_eq_valueIdx e (y 1) (y 2)).symm).trans (mBlk_at m c t e (y 1) (y 2))

/-! ## The arrays -/

/-- The distances. -/
def outD (X : Vec Ideal S2x16x4096x64 .f32) (M : Vec Ideal S16x512x64 .f32) : Vec Ideal S2x16x4096x512 .f32 :=
  fun y => dotN (xs X (y 0) (y 1)) (ms M (y 1)) (y 2) (y 3)

/-- The batch and the head of a pair of a grid point and one of its two heads. -/
def gB (a : Fin 16) : Fin 2 := ⟨a.val / 8, by have := a.isLt; omega⟩
def gH (a : Fin 16) (e : Fin 2) : Fin 16 := ⟨2 * (a.val % 8) + e.val, by have := e.isLt; omega⟩

/-- The place, among all heads' means, of a position's own mean. -/
def outG (X : Vec Ideal S2x16x4096x64 .f32) (M : Vec Ideal S16x512x64 .f32) : Vec Ideal S16x2x4096 .i32 :=
  fun y => pick (xs X (gB (y 0)) (gH (y 0) (y 1))) (ms M (gH (y 0) (y 1))) (y 2)
    + BitVec.ofNat 32 ((gH (y 0) (y 1)).val * 512)

/-- The means' squared norms. -/
def outM (M : Vec Ideal S16x512x64 .f32) : Vec Ideal S16x1x512 .f32 := fun y => msq (ms M (y 0)) (y 2)

theorem bD_at (t : Fin cfg0.N) (e : Fin 2) (l : Fin 4096) (k : Fin 512) :
    bD (xBlk m c t) (mBlk m c t) (ix4 0 e l k)
      = dotN (xs (argX m c) (bOf t) (hOf t e)) (ms (argM m c) (hOf t e)) l k := by
  unfold bD twoD
  fin_cases e
  · refine (if_pos rfl).trans ?_
    rw [xAt_eq, mAt_eq]
    exact (congrArg _ (ix4_eq_valueIdx 0 0 l k).symm).trans (pay11_at _ _ l k)
  · refine (if_neg (show ¬ ((1 : Fin 2).val = 0) by decide)).trans ?_
    rw [xAt_eq, mAt_eq]
    exact (congrArg (k0_pay11 _ _) (ix4_eq_valueIdx 0 0 l k).symm).trans (pay11_at _ _ l k)

theorem bG_at (t : Fin cfg0.N) (e : Fin 2) (l : Fin 4096) :
    bG (grid0.coords t) (xBlk m c t) (mBlk m c t) (ix3 0 e l)
      = pick (xs (argX m c) (bOf t) (hOf t e)) (ms (argM m c) (hOf t e)) l
        + BitVec.ofNat 32 ((hOf t e).val * 512) := by
  have hi : (grid0.coords t 0).val < 16 := by rw [coord_eq]; exact point_lt t
  unfold bG twoG
  fin_cases e
  · refine (if_pos rfl).trans ?_
    rw [xAt_eq, mAt_eq]
    refine (congrArg _ (ix3_eq_valueIdx 0 0 l).symm).trans ((pay15_at _ _ hi l).trans ?_)
    rw [pay14_at, coord_eq]; rfl
  · refine (if_neg (show ¬ ((1 : Fin 2).val = 0) by decide)).trans ?_
    rw [xAt_eq, mAt_eq]
    refine (congrArg _ (ix3_eq_valueIdx 0 0 l).symm).trans ((pay27_at _ _ _ hi l).trans ?_)
    rw [coord_eq]; rfl

theorem bM_at (t : Fin cfg0.N) (e : Fin 2) (k : Fin 512) :
    bM (mBlk m c t) (ix3 e 0 k) = msq (ms (argM m c) (hOf t e)) k := by
  unfold bM twoM
  fin_cases e
  · refine (if_pos rfl).trans ?_
    rw [mAt_eq]
    exact (congrArg _ (ix3_eq_valueIdx 0 0 k).symm).trans (pay16_at _ k)
  · refine (if_neg (show ¬ ((1 : Fin 2).val = 0) by decide)).trans ?_
    rw [mAt_eq]
    exact (congrArg (k0_pay16 (k0_pay7 _)) (ix3_eq_valueIdx 0 0 k).symm).trans (pay16_at _ k)

theorem arrOut_2 : arrOut m c 2 = outD (argX m c) (argM m c) := by
  refine (dats m 0 c).arrAt_eq_of_covers 2 _ (by decide +kernel) fun t hf y => ?_
  blk_simp
  rw [after_2]
  have h2 := (idx t).2.2.1
  have e : (win0_2.blk t).view.emb y = ix4 (bOf t) (hOf t (y 1)) (y 2) (y 3) := by
    blk_ext [bOf, hOf, h2]
  rw [e]
  have ey : y = ix4 0 (y 1) (y 2) (y 3) := by blk_ext []
  rw [ey]
  exact bD_at m c t (y 1) (y 2) (y 3)

theorem arrOut_3 : arrOut m c 3 = outG (argX m c) (argM m c) := by
  refine (dats m 0 c).arrAt_eq_of_covers 3 _ (by decide +kernel) fun t hf y => ?_
  blk_simp
  rw [after_3]
  have h2 := (idx t).2.2.2.1
  have e : (win0_3.blk t).view.emb y = ix3 ⟨t.val, point_lt t⟩ (y 1) (y 2) := by
    blk_ext [h2]
  rw [e]
  have ey : y = ix3 0 (y 1) (y 2) := by blk_ext []
  rw [ey]
  exact bG_at m c t (y 1) (y 2)

theorem arrOut_4 : arrOut m c 4 = outM (argM m c) := by
  refine (dats m 0 c).arrAt_eq_of_covers 4 _ (by decide +kernel) fun t hf y => ?_
  blk_simp
  rw [after_4]
  have h2 := (idx t).2.2.2.2.1
  have e : (win0_4.blk t).view.emb y = ix3 (hOf t (y 0)) 0 (y 2) := by
    blk_ext [hOf, h2]
  rw [e]
  have ey : y = ix3 (y 0) 0 (y 2) := by blk_ext []
  rw [ey]
  exact bM_at m c t (y 0) (y 2)

theorem arrOut_5 : arrOut m c 5 = partAt m c 15 (by decide) := by
  refine (dats m 0 c).arrAt_eq_of_after_last 5 t0_15 (by decide +kernel) _ fun j => ?_
  blk_simp
  rw [after_5]
  rfl

end Cert.Proof.Run

end
-- ==== Proof.Argmax.lean ====
module

public import proofs.«01_k».proof.Proof.Gen.ReferenceIdeal
public import proofs.«01_k».proof.Proof.TcArrays

/-! The least place of the largest of 512 numbers: as a minimum over the places that hold the maximum, and as
    a fold over pairs of a number and its place. -/

@[expose] public section

set_option maxRecDepth 16384

noncomputable section

namespace Cert.Proof.Run

open Idealize.ShloMosaic

/-- `k` is the first place of the largest value. -/
def IsFirst (f : Fin 512 → EReal) (k : Fin 512) : Prop := ∀ j, f j < f k ∨ (f j = f k ∧ k ≤ j)

theorem IsFirst.unique {f : Fin 512 → EReal} {k k' : Fin 512} (h : IsFirst f k) (h' : IsFirst f k') : k = k' := by
  rcases h k' with a | ⟨a, b⟩ <;> rcases h' k with c | ⟨c, d⟩
  · exact absurd (a.trans c) (lt_irrefl _)
  · exact absurd a (by rw [c]; exact lt_irrefl _)
  · exact absurd c (by rw [a]; exact lt_irrefl _)
  · exact le_antisymm b d

theorem IsFirst.le {f : Fin 512 → EReal} {k : Fin 512} (h : IsFirst f k) (j : Fin 512) : f j ≤ f k := by
  rcases h j with a | ⟨a, -⟩
  · exact a.le
  · exact a.le

theorem exists_isFirst (f : Fin 512 → EReal) : ∃ k, IsFirst f k := by
  obtain ⟨b, -, hb⟩ := Finset.exists_max_image Finset.univ f ⟨0, Finset.mem_univ 0⟩
  have hne : (Finset.univ.filter fun k => f k = f b).Nonempty := ⟨b, by simp⟩
  refine ⟨(Finset.univ.filter fun k => f k = f b).min' hne, fun j => ?_⟩
  have hk : f ((Finset.univ.filter fun k => f k = f b).min' hne) = f b := by
    have := (Finset.univ.filter fun k => f k = f b).min'_mem hne
    simpa using this
  rw [hk]
  rcases lt_or_eq_of_le (hb j (Finset.mem_univ j)) with h | h
  · exact Or.inl h
  · exact Or.inr ⟨h, Finset.min'_le _ _ (by simpa using h)⟩

theorem ofBits_negInf : Ideal.ofBits FTy.f32 4286578688#32 = ⊥ := by
  simp [Ideal.ofBits, Ideal.ieee]

theorem fold_max_eq {f : Fin 512 → EReal} {k : Fin 512} (h : IsFirst f k) :
    Finset.fold max (Ideal.ofBits FTy.f32 4286578688#32) f Finset.univ = f k := by
  rw [ofBits_negInf]
  refine le_antisymm ?_ ?_
  · rw [Finset.fold_max_le]
    exact ⟨bot_le, fun j _ => h.le j⟩
  · rw [Finset.le_fold_max]
    exact Or.inr ⟨k, Finset.mem_univ k, le_rfl⟩

theorem toInt_minsi (a b : BitVec 32) : (IntOp.minsi a b).toInt = min a.toInt b.toInt := by
  unfold IntOp.minsi
  simp only [BitVec.sle, BitVec.slt]
  split <;> rename_i h <;> simp at h <;> omega

theorem toInt_small (n : ℕ) (hn : n ≤ 512) : (BitVec.ofNat 32 n).toInt = n := by
  rw [BitVec.toInt_eq_toNat_of_lt (by rw [BitVec.toNat_ofNat]; omega), BitVec.toNat_ofNat]
  omega

theorem fold_minsi_eq {f : Fin 512 → EReal} {k : Fin 512} (h : IsFirst f k) :
    Finset.fold IntOp.minsi (2147483647#32)
      (fun c : Fin 512 => if f c = f k then BitVec.ofNat 32 c.val else 512#32) Finset.univ = BitVec.ofNat 32 k.val := by
  apply BitVec.eq_of_toInt_eq
  rw [← Finset.fold_hom (op' := min) (m := BitVec.toInt) toInt_minsi, toInt_small k.val (by omega)]
  refine le_antisymm ?_ ?_
  · rw [Finset.fold_min_le]
    refine Or.inr ⟨k, Finset.mem_univ k, ?_⟩
    rw [if_pos rfl, toInt_small k.val (by omega)]
  · rw [Finset.le_fold_min]
    refine ⟨by have := k.isLt; simp; omega, fun c _ => ?_⟩
    split
    · rename_i hc
      rw [toInt_small c.val (by omega)]
      rcases h c with a | ⟨-, b⟩
      · exact absurd hc a.ne
      · exact_mod_cast b
    · have := k.isLt
      simp
      try omega

theorem pick_eq (v1 : Vec Ideal Cert.KernelIdeal.S1x1x64x4096 .f32) (v3 : Vec Ideal Cert.KernelIdeal.S1x64x512 .f32) (l : Fin 4096)
    {k : Fin 512} (h : IsFirst (fun c => dotT v1 v3 c l) k) : pick v1 v3 l = BitVec.ofNat 32 k.val := by
  have e : dotMax v1 v3 l = dotT v1 v3 k l := fold_max_eq h
  unfold pick
  rw [e]
  exact fold_minsi_eq h

/-! ## The fold over pairs -/

open Cert.ReferenceIdeal in
theorem red_eq (a b : EReal × BitVec 32) : reducer_argmax_f32_i32 (F := Ideal) a b
    = if b.1 < a.1 ∨ (a.1 = b.1 ∧ a.2.toInt < b.2.toInt) then a else b := by
  obtain ⟨a1, a2⟩ := a
  obtain ⟨b1, b2⟩ := b
  unfold reducer_argmax_f32_i32
  simp only [Ideal.cmpf_def, Ideal.cmp, Scalar.select, IntOp.ori, IntOp.andi, IntOp.cmpi, BitVec.slt]
  rcases lt_trichotomy b1 a1 with h | h | h
  · simp [h, h.ne']
  · subst h
    by_cases h2 : a2.toInt < b2.toInt <;> simp [h2]
  · simp [h.ne, h.not_gt]

/-- `a` comes no later than `b`: larger, or as large and at no later a place. -/
def Dom (a b : EReal × BitVec 32) : Prop := b.1 < a.1 ∨ (b.1 = a.1 ∧ a.2.toInt ≤ b.2.toInt)

theorem Dom.refl (a : EReal × BitVec 32) : Dom a a := Or.inr ⟨rfl, le_rfl⟩

theorem Dom.trans {a b c : EReal × BitVec 32} (h : Dom a b) (h' : Dom b c) : Dom a c := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

open Cert.ReferenceIdeal in
theorem foldl_red (L : List (EReal × BitVec 32)) (a : EReal × BitVec 32) :
    (L.foldl (reducer_argmax_f32_i32 (F := Ideal)) a = a ∨ L.foldl (reducer_argmax_f32_i32 (F := Ideal)) a ∈ L)
    ∧ Dom (L.foldl (reducer_argmax_f32_i32 (F := Ideal)) a) a
    ∧ ∀ b ∈ L, Dom (L.foldl (reducer_argmax_f32_i32 (F := Ideal)) a) b := by
  induction L generalizing a with
  | nil => exact ⟨Or.inl rfl, Dom.refl a, fun b hb => absurd hb List.not_mem_nil⟩
  | cons c L ih =>
    rw [List.foldl_cons]
    have hab : Dom (reducer_argmax_f32_i32 (F := Ideal) a c) a ∧ Dom (reducer_argmax_f32_i32 (F := Ideal) a c) c
        ∧ (reducer_argmax_f32_i32 (F := Ideal) a c = a ∨ reducer_argmax_f32_i32 (F := Ideal) a c = c) := by
      rw [red_eq]
      split
      · rename_i h
        exact ⟨Dom.refl a, h.imp id fun h => ⟨h.1.symm, h.2.le⟩, Or.inl rfl⟩
      · rename_i h
        rw [not_or, not_and, not_lt, not_lt] at h
        refine ⟨?_, Dom.refl c, Or.inr rfl⟩
        rcases lt_or_eq_of_le h.1 with h1 | h1
        · exact Or.inl h1
        · exact Or.inr ⟨h1, h.2 h1⟩
    obtain ⟨h1, h2, h3⟩ := ih (reducer_argmax_f32_i32 (F := Ideal) a c)
    refine ⟨?_, h2.trans hab.1, fun b hb => ?_⟩
    · rcases h1 with h1 | h1
      · rcases hab.2.2 with h | h
        · exact Or.inl (h1.trans h)
        · exact Or.inr (by rw [h1, h]; exact List.mem_cons_self)
      · exact Or.inr (List.mem_cons_of_mem _ h1)
    · rcases List.mem_cons.mp hb with rfl | hb
      · exact h2.trans hab.2.1
      · exact h3 b hb

/-- The fold over any list of the 512 pairs, from the least number at place 0, ends at the first place of the largest. -/
theorem foldl_red_eq {f : Fin 512 → EReal} {k : Fin 512} (h : IsFirst f k) (L : List (EReal × BitVec 32))
    (hL : ∀ p, p ∈ L ↔ ∃ j : Fin 512, p = (f j, BitVec.ofNat 32 j.val)) :
    (L.foldl (Cert.ReferenceIdeal.reducer_argmax_f32_i32 (F := Ideal)) (⊥, 0#32)).2 = BitVec.ofNat 32 k.val := by
  obtain ⟨h1, -, h3⟩ := foldl_red L (⊥, 0#32)
  have hk := h3 _ ((hL _).mpr ⟨k, rfl⟩)
  rcases h1 with h1 | h1
  · rw [h1] at hk ⊢
    rcases hk with hk | ⟨-, hk⟩
    · exact absurd hk not_lt_bot
    · have h0 := h3 _ ((hL _).mpr ⟨0, rfl⟩)
      rw [h1] at h0
      have e0 : f 0 = ⊥ := by
        rcases h0 with h0 | ⟨h0, -⟩
        · exact absurd h0 not_lt_bot
        · exact h0
      have hkb := h3 _ ((hL _).mpr ⟨k, rfl⟩)
      rw [h1] at hkb
      have ek : f k = ⊥ := by
        rcases hkb with hkb | ⟨hkb, -⟩
        · exact absurd hkb not_lt_bot
        · exact hkb
      rcases h 0 with a | ⟨-, b⟩
      · exact absurd a (by rw [e0, ek]; exact lt_irrefl _)
      · have : k = 0 := le_antisymm b (Fin.zero_le k)
        rw [this]; rfl
  · obtain ⟨j, hj⟩ := (hL _).mp h1
    rw [hj] at hk ⊢
    have hjk : Dom (f j, BitVec.ofNat 32 j.val) (f k, BitVec.ofNat 32 k.val) := hk
    have : j = k := by
      rcases h j with a | ⟨a, b⟩
      · rcases hjk with c | ⟨c, -⟩
        · exact absurd (a.trans c) (lt_irrefl _)
        · exact absurd a (by rw [show f k = f j from c]; exact lt_irrefl _)
      · rcases hjk with c | ⟨-, c⟩
        · exact absurd (show f k < f j from c) (by rw [a]; exact lt_irrefl _)
        · dsimp only at c
          rw [toInt_small j.val (by omega), toInt_small k.val (by omega)] at c
          exact le_antisymm (by exact_mod_cast c) b
    rw [this]

end Cert.Proof.Run

end
-- ==== Proof.KernelRun.lean ====
module

public import proofs.«01_k».proof.Proof.TcMain
public import proofs.«01_k».proof.Proof.TcArrays
public import proofs.«01_k».proof.Proof.Argmax
public import Idealize.ShloMosaic.Lib.Claim

/-! The kernel's run over the exact reals: its frame, and its two results as functions of the arguments. -/

@[expose] public section

set_option maxRecDepth 16384

noncomputable section

namespace Cert.Proof.Run

open Cert.KernelIdeal Cert.KernelIdeal.Gen
open Idealize.ShloMosaic Idealize.ShloMosaic.TcCoe
open Idealize.SL.Sem
open Idealize.ShloMosaic.Pipeline (ucRefs)

variable (m : (ℓ : Loc nD τ sig) → Buf (Elt Ideal) ℓ) (d : Dev nD)

/-- A buffer no operation after the main call writes. -/
theorem W12_of_ne {r : Ref sig .tc} (h3 : r ≠ main_v3) (h4 : r ≠ main_v4) (h5 : r ≠ main_v5) (h6 : r ≠ main_v6)
    (hc : r ≠ main_cst) (h7 : r ≠ main_v7) (h8 : r ≠ main_v8) (hc0 : r ≠ main_cst_0) (h9 : r ≠ main_v9) :
    W12 m d (Proc.devRef .tc r) = W3 m d (Proc.devRef .tc r) := by
  unfold W12
  refine (StableHlo.binary_result_ne _ _ _ _ _ _ _ _ h9).trans ?_
  refine (StableHlo.nullary_result_ne _ _ _ _ hc0).trans ?_
  refine (StableHlo.binary_result_ne _ _ _ _ _ _ _ _ h8).trans ?_
  refine (StableHlo.binary_result_ne _ _ _ _ _ _ _ _ h7).trans ?_
  refine (StableHlo.nullary_result_ne _ _ _ _ hc).trans ?_
  refine (StableHlo.reshape_result_ne _ _ _ _ _ _ _ h6).trans ?_
  refine (Function.update_of_ne (StableHlo.devRef_ne_of_ne h5) _ _).trans ?_
  refine (StableHlo.reshape_result_ne _ _ _ _ _ _ _ h4).trans ?_
  exact StableHlo.reshape_result_ne _ _ _ _ _ _ _ h3

theorem W12_v2_0 : W12 m d (Proc.devRef .tc main_v2_0) = outD (argX m d) (argM m d) :=
  (W12_of_ne m d (by decide) (by decide) (by decide) (by decide) (by decide) (by decide) (by decide) (by decide) (by decide)).trans
    ((W3_v2_0 m d).trans (arrOut_2 m d))

theorem W2_of_ne {r : Ref sig .tc} (h0 : r ≠ main_v0) (h1 : r ≠ main_v1) : W2 m d (Proc.devRef .tc r) = m (d, Proc.devRef .tc r) := by
  unfold W2
  refine (StableHlo.unary_result_ne _ _ _ _ _ _ h1).trans ?_
  exact StableHlo.unary_result_ne _ _ _ _ _ _ h0

theorem W12_arg0 : W12 m d (Proc.devRef .tc main_arg0) = m (d, Proc.devRef .tc main_arg0) :=
  (W12_of_ne m d (by decide) (by decide) (by decide) (by decide) (by decide) (by decide) (by decide) (by decide) (by decide)).trans
    ((W3_of_ne m d (by decide) (by decide) (by decide) (by decide)).trans (W2_of_ne m d (by decide) (by decide)))

theorem W12_arg1 : W12 m d (Proc.devRef .tc main_arg1) = m (d, Proc.devRef .tc main_arg1) :=
  (W12_of_ne m d (by decide) (by decide) (by decide) (by decide) (by decide) (by decide) (by decide) (by decide) (by decide)).trans
    ((W3_of_ne m d (by decide) (by decide) (by decide) (by decide)).trans (W2_of_ne m d (by decide) (by decide)))

/-- The indices, flat. -/
theorem idxG_eq : idxG m d = shapeCast S131072 (outG (argX m d) (argM m d)) shapeCasts_S16x2x4096_S131072 := by
  refine (StableHlo.reshape_result' _ _ _ _ _).trans ?_
  refine congrArg (shapeCast S131072 · shapeCasts_S16x2x4096_S131072) ?_
  exact (StableHlo.reshape_result_ne _ _ _ _ _ _ _ (by decide)).trans ((W3_v2_1 m d).trans (arrOut_3 m d))

/-- The table, flat. -/
theorem tabA_eq : tabA m d = shapeCast S8192 (outM (argM m d)) shapeCasts_S16x1x512_S8192 := by
  refine (StableHlo.reshape_result_ne _ _ _ _ _ _ _ (by decide)).trans ?_
  refine (StableHlo.reshape_result' _ _ _ _ _).trans ?_
  exact congrArg (shapeCast S8192 · shapeCasts_S16x1x512_S8192) ((W3_v2_2 m d).trans (arrOut_4 m d))

theorem idxG_at (a : Fin 16) (e : Fin 2) (l : Fin 4096) (n : Fin 131072) (hn : n.val = (a.val * 2 + e.val) * 4096 + l.val) :
    idxG m d (ix1 n) = outG (argX m d) (argM m d) (ix3 a e l) := by
  rw [idxG_eq]
  pointwise
  refine congrArg (outG _ _) ?_
  have := l.isLt; have := e.isLt
  blk_ext []

theorem tabA_at (h : Fin 16) (k : Fin 512) (n : Fin 8192) (hn : n.val = h.val * 512 + k.val) :
    tabA m d (ix1 n) = outM (argM m d) (ix3 h 0 k) := by
  rw [tabA_eq]
  pointwise
  refine congrArg (outM _) ?_
  have := k.isLt
  blk_ext []

/-- A position's index is its head's first place plus the number of its mean. -/
theorem outG_toNat (X : Vec Ideal S2x16x4096x64 .f32) (M : Vec Ideal S16x512x64 .f32) (a : Fin 16) (e : Fin 2) (l : Fin 4096)
    {k : Fin 512} (hk : IsFirst (fun c => dotT (xs X (gB a) (gH a e)) (ms M (gH a e)) c l) k) :
    (outG X M (ix3 a e l)).toNat = (gH a e).val * 512 + k.val := by
  have : outG X M (ix3 a e l) = BitVec.ofNat 32 k.val + BitVec.ofNat 32 ((gH a e).val * 512) :=
    congrArg (· + BitVec.ofNat 32 ((gH a e).val * 512)) (pick_eq _ _ l hk)
  rw [this, BitVec.toNat_add, BitVec.toNat_ofNat, BitVec.toNat_ofNat]
  have := (gH a e).isLt; have := k.isLt
  omega

theorem outG_lt (X : Vec Ideal S2x16x4096x64 .f32) (M : Vec Ideal S16x512x64 .f32) (a : Fin 16) (e : Fin 2) (l : Fin 4096) :
    (outG X M (ix3 a e l)).toNat < 8192 := by
  obtain ⟨k, hk⟩ := exists_isFirst (fun c => dotT (xs X (gB a) (gH a e)) (ms M (gH a e)) c l)
  rw [outG_toNat X M a e l hk]
  have := (gH a e).isLt; have := k.isLt
  omega

theorem idxG_lt (n : Fin 131072) : BitVec.toNat (w := 32) (idxG m d (ix1 n)) < 8192 := by
  have hj := n.isLt
  rw [idxG_at m d ⟨n.val / 8192, by omega⟩ ⟨n.val / 4096 % 2, by omega⟩ ⟨n.val % 4096, by omega⟩ n (by dsimp only; omega)]
  exact outG_lt _ _ _ _ _

theorem hG (j : S131072.Idx) : BitVec.toNat (w := 32) (idxG m d j) < 8192 := by
  have e : j = ix1 (j 0) := by blk_ext []
  exact lt_of_eq_of_lt (congrArg (fun i => BitVec.toNat (w := 32) (idxG m d i)) e) (idxG_lt m d (j 0))

theorem mem_uc (r : Ref sig .tc) (h : Proc.devRef .tc r ∈ ucRefs τ sig := by decide) : Proc.devRef .tc r ∈ ucRefs τ sig := h

theorem frame_kernel (g : Dev nD → PrngReg) :
    θ_run (defs (F := Ideal)) (threads (F := Ideal)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m g fun d j => hG m d j) fun r hr =>
    ⟨fun c => ⟨(hr.1 c _ (mem_uc main_arg0)).trans (W12_arg0 m c), (hr.1 c _ (mem_uc main_arg1)).trans (W12_arg1 m c)⟩, hr.2⟩

end Cert.Proof.Run

end
-- ==== Proof.KernelSum.lean ====
module

public import proofs.«01_k».proof.Proof.KernelRun

/-! What the kernel's scalar result adds up: each grid point's two heads, and the squared lengths that the tiles pick. -/

@[expose] public section

set_option maxRecDepth 16384

noncomputable section

namespace Cert.Proof.Run

open Cert.KernelIdeal Cert.KernelIdeal.Gen
open Idealize.ShloMosaic Idealize.ShloMosaic.TcCoe
open Idealize.SL.Sem

/-! ## The main call's running total -/

/-- One head's part of the loss: the squared lengths of its vectors, less twice their largest inner products. -/
def headSum (v1 : Vec Ideal S1x1x64x4096 .f32) (v3 : Vec Ideal S1x64x512 .f32) : EReal :=
  (∑ l : Fin 4096, ssq v1 l * rnorm v1 l * rnorm v1 l) - Ideal.ofBits .f32 1073741824#32 * ∑ l : Fin 4096, dotMax v1 v3 l

theorem zero1_at : k0_pay3 (F := Ideal) (ix3 0 0 0) = 0 := by
  pointwise [k0_pay3]

theorem zero2_at : k0_pay5 (F := Ideal) (ix2 0 0) = 0 := by
  pointwise [k0_pay5]

theorem bP_at (x0 : Vec Ideal S1x2x64x4096 .f32) (x1 : Vec Ideal S2x64x512 .f32) (p : Vec Ideal S1x1x1 .f32) :
    bP x0 x1 p (ix3 0 0 0) = p (ix3 0 0 0) + (headSum (xAt x0 0) (mAt x1 0) + headSum (xAt x0 1) (mAt x1 1)) := by
  have h0 : headSum (xAt x0 0) (mAt x1 0) = (∑ l : Fin 4096, k0_pay8 (xAt x0 0) (ix2 0 l) * k0_pay9 (xAt x0 0) (ix2 0 l) * k0_pay9 (xAt x0 0) (ix2 0 l))
      - Ideal.ofBits .f32 1073741824#32 * ∑ l : Fin 4096, k0_pay13 (xAt x0 0) (mAt x1 0) (ix2 0 l) := by
    simp only [pay8_at, pay9_at, pay13_at]
    rfl
  have h1 : headSum (xAt x0 1) (mAt x1 1) = (∑ l : Fin 4096, k0_pay8 (xAt x0 1) (ix2 0 l) * k0_pay9 (xAt x0 1) (ix2 0 l) * k0_pay9 (xAt x0 1) (ix2 0 l))
      - Ideal.ofBits .f32 1073741824#32 * ∑ l : Fin 4096, k0_pay13 (xAt x0 1) (mAt x1 1) (ix2 0 l) := by
    simp only [pay8_at, pay9_at, pay13_at]
    rfl
  rw [h0, h1]
  unfold bP
  rw [pay4_at, pay17_at, zero2_at, zero_add]
  rfl

variable (m : (ℓ : Loc nD τ sig) → Buf (Elt Ideal) ℓ) (d : Dev nD)

/-- The part of a grid point's head, by the point's number. -/
def pairSum (X : Vec Ideal S2x16x4096x64 .f32) (M : Vec Ideal S16x512x64 .f32) (a : Fin 16) (e : Fin 2) : EReal :=
  headSum (xs X (gB a) (gH a e)) (ms M (gH a e))

theorem bP_point (t : Fin cfg0.N) (a : Fin 16) (ha : a.val = t.val) (p : Vec Ideal S1x1x1 .f32) :
    bP (xBlk m d t) (mBlk m d t) p (ix3 0 0 0) = p (ix3 0 0 0) + ∑ e : Fin 2, pairSum (argX m d) (argM m d) a e := by
  rw [bP_at, Fin.sum_univ_two, xAt_eq, xAt_eq, mAt_eq, mAt_eq]
  have hb : bOf t = gB a := Fin.ext (by show t.val / 8 = a.val / 8; rw [ha])
  have hh : ∀ e, hOf t e = gH a e := fun e => Fin.ext (by show 2 * (t.val % 8) + e.val = 2 * (a.val % 8) + e.val; rw [ha])
  rw [hb, hh, hh]
  rfl

theorem partAt_sum (n : ℕ) (h : n < cfg0.N) (h' : n + 1 ≤ 16) :
    partAt m d n h (ix3 0 0 0) = ∑ i : Fin (n + 1), ∑ e : Fin 2, pairSum (argX m d) (argM m d) (i.castLE h') e := by
  induction n with
  | zero =>
    rw [Fin.sum_univ_one]
    refine (bP_point m d ⟨0, h⟩ 0 rfl _).trans ?_
    rw [zero1_at, zero_add]
    rfl
  | succ n ih =>
    rw [Fin.sum_univ_castSucc]
    refine (bP_point m d ⟨n + 1, h⟩ ⟨n + 1, by omega⟩ rfl _).trans ?_
    rw [ih (Nat.lt_of_succ_lt h) (by omega)]
    rfl

/-! ## The tiles' sums -/

/-- The table's entry that the index at place `n` names. -/
def entry (a : Vec Ideal S8192 .f32) (g : IVec S131072 32) (n : ℕ) : EReal :=
  a (ix1 ⟨(g (ix1 ⟨n % 131072, Nat.mod_lt _ (by decide)⟩)).toNat % 8192, Nat.mod_lt _ (by decide)⟩)

theorem lanes_sum (a : Vec Ideal S8192 .f32) (g : IVec S131072 32) (w k : ℕ) (x : Fin 16) :
    lanes (F := Ideal) a g w k (ix1 x) = ∑ i ∈ Finset.range k, entry a g (4096 * w + 16 * i + x.val) := by
  induction k with
  | zero =>
    rw [Finset.range_zero, Finset.sum_empty]
    show k1_pay1 (F := Ideal) (ix1 x) = 0
    pointwise [k1_pay1]
  | succ k ih =>
    rw [Finset.sum_range_succ, ← ih]
    show k1_pay2 (F := Ideal) (lanes (F := Ideal) a g w k) (picked (F := Ideal) a g w k) (ix1 x) = _
    pointwise [k1_pay2]
    rfl

theorem sum_rows {A : Type} [AddCommMonoid A] (f : ℕ → A) (n k : ℕ) :
    ∑ i ∈ Finset.range k, ∑ x ∈ Finset.range n, f (n * i + x) = ∑ j ∈ Finset.range (n * k), f j := by
  induction k with
  | zero => simp
  | succ k ih => rw [Finset.sum_range_succ, ih, Nat.mul_succ, Finset.sum_range_add]

theorem laneSums_sum (a : Vec Ideal S8192 .f32) (g : IVec S131072 32) :
    ∑ w : Fin 32, ∑ x : Fin 16, laneSums (F := Ideal) a g (ix2 w x)
      = ∑ p : Fin 16, ∑ e : Fin 2, ∑ l : Fin 4096, entry a g ((p.val * 2 + e.val) * 4096 + l.val) := by
  have h1 : ∀ (w : Fin 32) (x : Fin 16), laneSums (F := Ideal) a g (ix2 w x) = ∑ i ∈ Finset.range 256, entry a g (4096 * w.val + 16 * i + x.val) :=
    fun w x => lanes_sum a g w.val 256 x
  simp only [h1]
  have h2 : ∀ w : Fin 32, ∑ x : Fin 16, ∑ i ∈ Finset.range 256, entry a g (4096 * w.val + 16 * i + x.val)
      = ∑ l ∈ Finset.range 4096, entry a g (4096 * w.val + l) := fun w => by
    rw [Finset.sum_comm, ← sum_rows (fun j => entry a g (4096 * w.val + j)) 16 256]
    refine Finset.sum_congr rfl fun i _ => ?_
    rw [Finset.sum_range]
    exact Finset.sum_congr rfl fun x _ => by rw [Nat.add_assoc]
  simp only [h2]
  rw [Fin.sum_univ_eq_sum_range (fun w => ∑ l ∈ Finset.range 4096, entry a g (4096 * w + l)) 32]
  rw [← sum_rows (fun w => ∑ l ∈ Finset.range 4096, entry a g (4096 * w + l)) 2 16, Finset.sum_range]
  refine Finset.sum_congr rfl fun p _ => ?_
  rw [Finset.sum_range]
  refine Finset.sum_congr rfl fun e _ => ?_
  rw [Finset.sum_range]
  refine Finset.sum_congr rfl fun l _ => ?_
  exact congrArg (entry a g) (by omega)

theorem entry_at (a : Fin 16) (e : Fin 2) (l : Fin 4096) {k : Fin 512}
    (hk : IsFirst (fun c => dotT (xs (argX m d) (gB a) (gH a e)) (ms (argM m d) (gH a e)) c l) k) :
    entry (tabA m d) (idxG m d) ((a.val * 2 + e.val) * 4096 + l.val) = msq (ms (argM m d) (gH a e)) k := by
  unfold entry
  have ha := a.isLt; have he := e.isLt; have hl := l.isLt; have hq := k.isLt; have hh := (gH a e).isLt
  refine (tabA_at m d (gH a e) k _ ?_).trans rfl
  have h1 := outG_toNat (argX m d) (argM m d) a e l hk
  have h3 := idxG_at m d a e l ⟨((a.val * 2 + e.val) * 4096 + l.val) % 131072, Nat.mod_lt _ (by decide)⟩ (by dsimp only; omega)
  dsimp only
  rw [h3, h1]
  omega

/-! ## The scalar result -/

theorem W12_v9 : W12 m d (Proc.devRef .tc main_v9)
    = mulf (addf (shapeCast S_ (partAt m d 15 (by decide)) shapeCasts_S1x1x1_S_)
        (Host.reduceAdd (laneSums (tabA m d) (idxG m d)) (constant S_ .f32 0x00000000#32) reducesTo_S32x16_S_d0_1 h_S_))
      (constant S_ .f32 0x2D51B717#32) := by
  have h6 : (op4 (F := Ideal)).result (W6 m d) (Proc.devRef .tc main_v6) = shapeCast S_ (partAt m d 15 (by decide)) shapeCasts_S1x1x1_S_ := by
    refine (StableHlo.reshape_result' _ _ _ _ _).trans ?_
    refine congrArg (shapeCast S_ · shapeCasts_S1x1x1_S_) ?_
    refine (Function.update_of_ne (StableHlo.devRef_ne_of_ne (by decide)) _ _).trans ?_
    refine (StableHlo.reshape_result_ne _ _ _ _ _ _ _ (by decide)).trans ?_
    refine (StableHlo.reshape_result_ne _ _ _ _ _ _ _ (by decide)).trans ?_
    exact (W3_v2_3 m d).trans (arrOut_5 m d)
  have h5 : (op4 (F := Ideal)).result (W6 m d) (Proc.devRef .tc main_v5) = laneSums (F := Ideal) (tabA m d) (idxG m d) := by
    refine (StableHlo.reshape_result_ne _ _ _ _ _ _ _ (by decide)).trans ?_
    exact (W6_sc m d).2.2
  unfold W12
  refine (StableHlo.binary_result' _ _ _ _ _).trans ?_
  refine congrArg₂ mulf ?_ (StableHlo.nullary_result' _ _ _)
  refine (StableHlo.nullary_result_ne _ _ _ _ (by decide)).trans ?_
  refine (StableHlo.binary_result' _ _ _ _ _).trans ?_
  refine congrArg₂ addf ?_ ?_
  · refine (StableHlo.binary_result_ne _ _ _ _ _ _ _ _ (by decide)).trans ?_
    exact (StableHlo.nullary_result_ne _ _ _ _ (by decide)).trans h6
  · refine (StableHlo.binary_result' _ _ _ _ _).trans ?_
    refine congrArg₂ (fun x v => Host.reduceAdd x v reducesTo_S32x16_S_d0_1 h_S_) ?_ (StableHlo.nullary_result' _ _ _)
    exact (StableHlo.nullary_result_ne _ _ _ _ (by decide)).trans h5

theorem scalar_at (P : Vec Ideal S1x1x1 .f32) (Q : Vec Ideal S32x16 .f32) (j : S_.Idx) :
    mulf (F := Ideal) (addf (shapeCast S_ P shapeCasts_S1x1x1_S_) (Host.reduceAdd Q (constant S_ .f32 0x00000000#32) reducesTo_S32x16_S_d0_1 h_S_))
      (constant S_ .f32 0x2D51B717#32) j
    = (P (ix3 0 0 0) + ∑ w : Fin 32, ∑ x : Fin 16, Q (ix2 w x)) * Ideal.ofBits .f32 0x2D51B717#32 := by
  pointwise

theorem W12_v9_at (j : S_.Idx) : W12 m d (Proc.devRef .tc main_v9) j
    = ((∑ a : Fin 16, ∑ e : Fin 2, pairSum (argX m d) (argM m d) a e)
        + ∑ a : Fin 16, ∑ e : Fin 2, ∑ l : Fin 4096, entry (tabA m d) (idxG m d) ((a.val * 2 + e.val) * 4096 + l.val))
      * Ideal.ofBits .f32 0x2D51B717#32 := by
  rw [W12_v9]
  refine (scalar_at _ _ j).trans ?_
  rw [partAt_sum m d 15 (by decide) (by decide), ← laneSums_sum]
  rfl

end Cert.Proof.Run

end
-- ==== Proof.RefRun.lean ====
module

public import proofs.«01_k».proof.Proof.Gen.ReferenceIdeal
public import proofs.«01_k».proof.Defs
public import Idealize.ShloMosaic.Lib.Claim
public import Idealize.ShloMosaic.Lib.Quiescent
public import Idealize.ShloMosaic.Lib.StableHlo.RunHlo

/-! The reference's run: its frame, and its two results as composed operations on the arguments. -/

@[expose] public section

set_option maxRecDepth 1000000

noncomputable section

namespace Cert.Proof.Run

open Cert.ReferenceIdeal Cert.ReferenceIdeal.Gen
open Idealize.ShloMosaic Idealize.ShloMosaic.TcCoe
open Idealize.SL.Sem

/-- The norms. -/
def rSqrt (X : FVec Ideal S2x16x4096x64 .f32) : FVec Ideal S2x16x4096x1 .f32 :=
  Host.sqrt (broadcastInDim S2x16x4096x1 ![0, 1, 2] bcast_S2x16x4096_S2x16x4096x1_0_1_2
    (Host.reduceAdd (mulf X X) (constant S_ .f32 0x00000000#32) reducesTo_S2x16x4096x64_S2x16x4096_d3 h_S_))

/-- The vectors divided by their norms, these kept above the small constant. -/
def rQuot (X : FVec Ideal S2x16x4096x64 .f32) (N : FVec Ideal S2x16x4096x1 .f32) : FVec Ideal S2x16x4096x64 .f32 :=
  Host.divf X (broadcastInDim S2x16x4096x64 ![0, 1, 2, 3] bcast_S2x16x4096x1_S2x16x4096x64_0_1_2_3
    (maximumf N (broadcastInDim S2x16x4096x1 ![] bcast_S_S2x16x4096x1 (constant S_ .f32 0x2B8CBCCC#32))))

/-- The inner products of vectors and means. -/
def rDot (M : FVec Ideal S16x512x64 .f32) (Y : FVec Ideal S2x16x4096x64 .f32) : FVec Ideal S2x16x4096x512 .f32 :=
  transpose S2x16x4096x512 [2, 0, 3, 1]
    (Host.dotGeneral dot_S16x512x64_S2x16x4096x64_S16x512x2x4096_2_3_1_02_0_1 none M Y)
    transposes_S16x512x2x4096_S2x16x4096x512_2_0_3_1

/-- The normalized vectors. -/
def rXn (X : FVec Ideal S2x16x4096x64 .f32) : FVec Ideal S2x16x4096x64 .f32 := rQuot X (rSqrt X)

/-- The distances. -/
def rDists (X : FVec Ideal S2x16x4096x64 .f32) (M : FVec Ideal S16x512x64 .f32) : FVec Ideal S2x16x4096x512 .f32 := rDot M (rXn X)

/-- The largest distance and its place. -/
def rArgs (D : FVec Ideal S2x16x4096x512 .f32) : S2x16x4096.Idx → Ideal .f32 × BitVec 32 :=
  Host.argReduce (reducer_argmax_f32_i32 (F := Ideal)) D (iotaInDim S2x16x4096x512 32 3) (constant S_ .f32 0xFF800000#32)
    (constantI S_ 32 0#32) reducesTo_S2x16x4096x512_S2x16x4096_d3 h_S_

/-- The place of the largest distance. -/
def rArg (D : FVec Ideal S2x16x4096x512 .f32) : IVec S2x16x4096 32 := fun j => (rArgs D j).2

/-- That place, repeated along the vectors' axis. -/
def rIdx (A : IVec S2x16x4096 32) : IVec S2x16x4096x64 32 :=
  broadcastInDim S2x16x4096x64 ![0, 1, 2, 3] bcast_S2x16x4096x1_S2x16x4096x64_0_1_2_3
    (broadcastInDim S2x16x4096x1 ![0, 1, 2] bcast_S2x16x4096_S2x16x4096x1_0_1_2 A)

/-- The means, repeated along the batch. -/
def rMeans (M : FVec Ideal S16x512x64 .f32) : FVec Ideal S2x16x512x64 .f32 :=
  broadcastInDim S2x16x512x64 ![0, 1, 2, 3] bcast_S1x16x512x64_S2x16x512x64_0_1_2_3
    (broadcastInDim S1x16x512x64 ![1, 2, 3] bcast_S16x512x64_S1x16x512x64_1_2_3 M)

/-- The places to take, a negative one counted from the end. -/
def rWrap (I : IVec S2x16x4096x64 32) : IVec S2x16x4096x64x1 32 :=
  shapeCast S2x16x4096x64x1
    (select (cmpi .slt I (broadcastInDim S2x16x4096x64 ![] bcast_S_S2x16x4096x64 (constantI S_ 32 0#32)))
      (addi I (broadcastInDim S2x16x4096x64 ![] bcast_S_S2x16x4096x64 (constantI S_ 32 512#32))) I)
    shapeCasts_S2x16x4096x64_S2x16x4096x64x1

/-- The comparisons of a place with the ends of the axis. -/
def rOk (J : IVec S2x16x4096x64x1 32) : IVec S2x16x4096x64x1 1 :=
  andi (cmpi .sge J (broadcastInDim S2x16x4096x64x1 ![] bcast_S_S2x16x4096x64x1 (constantI S_ 32 0#32)))
    (cmpi .sle J (broadcastInDim S2x16x4096x64x1 ![0, 1, 2, 3, 4] bcast_S1x1x1x1x1_S2x16x4096x64x1_0_1_2_3_4
      (broadcastInDim S1x1x1x1x1 ![4] bcast_S1_S1x1x1x1x1_4 (constantI S1 32 511#32))))

/-- The comparisons combined. -/
def rAll (C : IVec S2x16x4096x64x1 1) : IVec S2x16x4096x64 1 :=
  Host.reduce IntOp.andi C (constantI S_ 1 1#1) reducesTo_S2x16x4096x64x1_S2x16x4096x64_d4 h_S_

/-- Whether a place lies in the axis. -/
def rIn (J : IVec S2x16x4096x64x1 32) : IVec S2x16x4096x64 1 := rAll (rOk J)

/-- The take of means at places, where a mark says so. -/
def rSel (W : IVec S2x16x4096x64 1) (Mb : FVec Ideal S2x16x512x64 .f32) (J : IVec S2x16x4096x64x1 32) : FVec Ideal S2x16x4096x64 .f32 :=
  select W (Host.gather gather_S2x16x512x64_S2x16x4096x64x1_S2x16x4096x64_n_2_013_013_2_4_1111 Mb J)
    (broadcastInDim S2x16x4096x64 ![] bcast_S_S2x16x4096x64 (constant S_ .f32 0x7FC00000#32))

/-- The means taken at the places. -/
def rTake (Mb : FVec Ideal S2x16x512x64 .f32) (I : IVec S2x16x4096x64 32) : FVec Ideal S2x16x4096x64 .f32 :=
  rSel (rIn (rWrap I)) Mb (rWrap I)

/-- The difference. -/
def rSub (A B : FVec Ideal S2x16x4096x64 .f32) : FVec Ideal S2x16x4096x64 .f32 := subf A B

/-- The difference of the vectors and their means. -/
def rDiff (X : FVec Ideal S2x16x4096x64 .f32) (M : FVec Ideal S16x512x64 .f32) : FVec Ideal S2x16x4096x64 .f32 :=
  rSub (rXn X) (rTake (rMeans M) (rIdx (rArg (rDists X M))))

/-- The mean of the squares, scaled. -/
def rMean (A : FVec Ideal S2x16x4096x64 .f32) : FVec Ideal S_ .f32 :=
  mulf (Host.divf (Host.reduceAdd (mulf A A) (constant S_ .f32 0x00000000#32)
      reducesTo_S2x16x4096x64_S_d0_1_2_3 h_S_) (constant S_ .f32 0x4B000000#32)) (constant S_ .f32 0x38D1B717#32)

/-- The loss. -/
def rLoss (X : FVec Ideal S2x16x4096x64 .f32) (M : FVec Ideal S16x512x64 .f32) : FVec Ideal S_ .f32 := rMean (rDiff X M)

abbrev Op := HloOp τ sig (Elt Ideal)

section Lists

variable {F : FTy → Type} [FloatOps F]

/-- The operations of the norms. -/
def opsA : List (HloOp τ sig (Elt F)) :=
  [StableHlo.TRef.binary (.of main_arg0) (.of main_arg0) main_call0.v0 mulf,
   StableHlo.TRef.nullary main_call0.cst (constant S_ .f32 0x00000000#32),
   StableHlo.TRef.binary main_call0.v0 main_call0.cst main_call0.v1 (fun x v => Host.reduceAdd x v reducesTo_S2x16x4096x64_S2x16x4096_d3 h_S_),
   StableHlo.TRef.unary main_call0.v1 main_call0.v2 (broadcastInDim S2x16x4096x1 ![0, 1, 2] bcast_S2x16x4096_S2x16x4096x1_0_1_2),
   StableHlo.TRef.unary main_call0.v2 main_call0.v3 Host.sqrt]

/-- The operations of the distances. -/
def opsB : List (HloOp τ sig (Elt F)) :=
  [StableHlo.nullary main_cst (constant S_ .f32 0x2B8CBCCC#32),
   StableHlo.unary main_cst main_v1 (broadcastInDim S2x16x4096x1 ![] bcast_S_S2x16x4096x1 : (⟨S_, .f32⟩ : BufTy).Contents (Elt F) → (⟨S2x16x4096x1, .f32⟩ : BufTy).Contents (Elt F)),
   StableHlo.binary main_v0 main_v1 main_v2 (maximumf : (⟨S2x16x4096x1, .f32⟩ : BufTy).Contents (Elt F) → (⟨S2x16x4096x1, .f32⟩ : BufTy).Contents (Elt F) → (⟨S2x16x4096x1, .f32⟩ : BufTy).Contents (Elt F)),
   StableHlo.unary main_v2 main_v3 (broadcastInDim S2x16x4096x64 ![0, 1, 2, 3] bcast_S2x16x4096x1_S2x16x4096x64_0_1_2_3 : (⟨S2x16x4096x1, .f32⟩ : BufTy).Contents (Elt F) → (⟨S2x16x4096x64, .f32⟩ : BufTy).Contents (Elt F)),
   StableHlo.binary main_arg0 main_v3 main_v4 (Host.divf : (⟨S2x16x4096x64, .f32⟩ : BufTy).Contents (Elt F) → (⟨S2x16x4096x64, .f32⟩ : BufTy).Contents (Elt F) → (⟨S2x16x4096x64, .f32⟩ : BufTy).Contents (Elt F)),
   StableHlo.binary main_arg1 main_v4 main_v5 ((fun l r => Host.dotGeneral dot_S16x512x64_S2x16x4096x64_S16x512x2x4096_2_3_1_02_0_1 none l r) : (⟨S16x512x64, .f32⟩ : BufTy).Contents (Elt F) → (⟨S2x16x4096x64, .f32⟩ : BufTy).Contents (Elt F) → (⟨S16x512x2x4096, .f32⟩ : BufTy).Contents (Elt F)),
   StableHlo.unary main_v5 main_v6 ((transpose S2x16x4096x512 [2, 0, 3, 1] · transposes_S16x512x2x4096_S2x16x4096x512_2_0_3_1) : (⟨S16x512x2x4096, .f32⟩ : BufTy).Contents (Elt F) → (⟨S2x16x4096x512, .f32⟩ : BufTy).Contents (Elt F))]

/-- The operations of the largest places. -/
def opsC : List (HloOp τ sig (Elt F)) :=
  [StableHlo.TRef.nullary main_call1.v0 (iotaInDim S2x16x4096x512 32 3),
   StableHlo.TRef.nullary main_call1.cst (constant S_ .f32 0xFF800000#32),
   StableHlo.TRef.nullary main_call1.c (constantI S_ 32 0#32),
   StableHlo.TRef.quaternary (.of main_v6) main_call1.v0 main_call1.cst main_call1.c main_call1.v1_0 (fun x y u v j => (Host.argReduce reducer_argmax_f32_i32 x y u v reducesTo_S2x16x4096x512_S2x16x4096_d3 h_S_ j).1),
   StableHlo.TRef.quaternary (.of main_v6) main_call1.v0 main_call1.cst main_call1.c main_call1.v1_1 (fun x y u v j => (Host.argReduce reducer_argmax_f32_i32 x y u v reducesTo_S2x16x4096x512_S2x16x4096_d3 h_S_ j).2)]

/-- The operations of the operands of the take. -/
def opsD : List (HloOp τ sig (Elt F)) :=
  [StableHlo.unary main_arg1 main_v8 (broadcastInDim S1x16x512x64 ![1, 2, 3] bcast_S16x512x64_S1x16x512x64_1_2_3 : (⟨S16x512x64, .f32⟩ : BufTy).Contents (Elt F) → (⟨S1x16x512x64, .f32⟩ : BufTy).Contents (Elt F)),
   StableHlo.unary main_v8 main_v9 (broadcastInDim S2x16x512x64 ![0, 1, 2, 3] bcast_S1x16x512x64_S2x16x512x64_0_1_2_3 : (⟨S1x16x512x64, .f32⟩ : BufTy).Contents (Elt F) → (⟨S2x16x512x64, .f32⟩ : BufTy).Contents (Elt F)),
   StableHlo.unary main_v7 main_v10 (broadcastInDim S2x16x4096x1 ![0, 1, 2] bcast_S2x16x4096_S2x16x4096x1_0_1_2 : (⟨S2x16x4096, .i32⟩ : BufTy).Contents (Elt F) → (⟨S2x16x4096x1, .i32⟩ : BufTy).Contents (Elt F)),
   StableHlo.unary main_v10 main_v11 (broadcastInDim S2x16x4096x64 ![0, 1, 2, 3] bcast_S2x16x4096x1_S2x16x4096x64_0_1_2_3 : (⟨S2x16x4096x1, .i32⟩ : BufTy).Contents (Elt F) → (⟨S2x16x4096x64, .i32⟩ : BufTy).Contents (Elt F))]

/-- The operations of the wrapped places. -/
def opsE : List (HloOp τ sig (Elt F)) :=
  [StableHlo.TRef.nullary main_call2.c (constantI S_ 32 0#32),
   StableHlo.TRef.unary main_call2.c main_call2.v0 (broadcastInDim S2x16x4096x64 ![] bcast_S_S2x16x4096x64),
   StableHlo.TRef.binary (.of main_v11) main_call2.v0 main_call2.v1 (cmpi .slt),
   StableHlo.TRef.nullary main_call2.c_0 (constantI S_ 32 512#32),
   StableHlo.TRef.unary main_call2.c_0 main_call2.v2 (broadcastInDim S2x16x4096x64 ![] bcast_S_S2x16x4096x64),
   StableHlo.TRef.binary (.of main_v11) main_call2.v2 main_call2.v3 addi,
   StableHlo.TRef.ternary main_call2.v1 main_call2.v3 (.of main_v11) main_call2.v4 select,
   StableHlo.TRef.reshape main_call2.v4 main_call2.v5 (rfl : (.i32 : EltTy) = .i32) shapeCasts_S2x16x4096x64_S2x16x4096x64x1]

/-- The operations of the places in range. -/
def opsF : List (HloOp τ sig (Elt F)) :=
  [StableHlo.TRef.nullary main_call2.c_1 (constantI S1 32 511#32),
   StableHlo.TRef.nullary main_call2.c_2 (constantI S_ 32 0#32),
   StableHlo.TRef.unary main_call2.c_2 main_call2.v6 (broadcastInDim S2x16x4096x64x1 ![] bcast_S_S2x16x4096x64x1),
   StableHlo.TRef.binary main_call2.v5 main_call2.v6 main_call2.v7 (cmpi .sge),
   StableHlo.TRef.unary main_call2.c_1 main_call2.v8 (broadcastInDim S1x1x1x1x1 ![4] bcast_S1_S1x1x1x1x1_4),
   StableHlo.TRef.unary main_call2.v8 main_call2.v9 (broadcastInDim S2x16x4096x64x1 ![0, 1, 2, 3, 4] bcast_S1x1x1x1x1_S2x16x4096x64x1_0_1_2_3_4),
   StableHlo.TRef.binary main_call2.v5 main_call2.v9 main_call2.v10 (cmpi .sle),
   StableHlo.TRef.binary main_call2.v7 main_call2.v10 main_call2.v11 andi]

/-- The operations that combine the comparisons. -/
def opsG : List (HloOp τ sig (Elt F)) :=
  [StableHlo.TRef.nullary main_call2.c_3 (constantI S_ 1 1#1),
   StableHlo.TRef.binary main_call2.v11 main_call2.c_3 main_call2.v12 (fun x v => Host.reduce IntOp.andi x v reducesTo_S2x16x4096x64x1_S2x16x4096x64_d4 h_S_)]

/-- The operations of the taken means. -/
def opsH : List (HloOp τ sig (Elt F)) :=
  [StableHlo.TRef.binary (.of main_v9) main_call2.v5 main_call2.v13 (fun x i => Host.gather gather_S2x16x512x64_S2x16x4096x64x1_S2x16x4096x64_n_2_013_013_2_4_1111 x i),
   StableHlo.TRef.nullary main_call2.cst (constant S_ .f32 0x7FC00000#32),
   StableHlo.TRef.unary main_call2.cst main_call2.v14 (broadcastInDim S2x16x4096x64 ![] bcast_S_S2x16x4096x64),
   StableHlo.TRef.ternary main_call2.v12 main_call2.v13 main_call2.v14 main_call2.v15 select]

/-- The operations of the loss. -/
def opsI : List (HloOp τ sig (Elt F)) :=
  [StableHlo.binary main_v4 main_v12 main_v13 (subf : (⟨S2x16x4096x64, .f32⟩ : BufTy).Contents (Elt F) → (⟨S2x16x4096x64, .f32⟩ : BufTy).Contents (Elt F) → (⟨S2x16x4096x64, .f32⟩ : BufTy).Contents (Elt F)),
   StableHlo.binary main_v13 main_v13 main_v14 (mulf : (⟨S2x16x4096x64, .f32⟩ : BufTy).Contents (Elt F) → (⟨S2x16x4096x64, .f32⟩ : BufTy).Contents (Elt F) → (⟨S2x16x4096x64, .f32⟩ : BufTy).Contents (Elt F)),
   StableHlo.nullary main_cst_0 (constant S_ .f32 0x00000000#32),
   StableHlo.binary main_v14 main_cst_0 main_v15 ((fun x v => Host.reduceAdd x v reducesTo_S2x16x4096x64_S_d0_1_2_3 h_S_) : (⟨S2x16x4096x64, .f32⟩ : BufTy).Contents (Elt F) → (⟨S_, .f32⟩ : BufTy).Contents (Elt F) → (⟨S_, .f32⟩ : BufTy).Contents (Elt F)),
   StableHlo.nullary main_cst_1 (constant S_ .f32 0x4B000000#32),
   StableHlo.binary main_v15 main_cst_1 main_v16 (Host.divf : (⟨S_, .f32⟩ : BufTy).Contents (Elt F) → (⟨S_, .f32⟩ : BufTy).Contents (Elt F) → (⟨S_, .f32⟩ : BufTy).Contents (Elt F)),
   StableHlo.nullary main_cst_2 (constant S_ .f32 0x38D1B717#32),
   StableHlo.binary main_v16 main_cst_2 main_v17 (mulf : (⟨S_, .f32⟩ : BufTy).Contents (Elt F) → (⟨S_, .f32⟩ : BufTy).Contents (Elt F) → (⟨S_, .f32⟩ : BufTy).Contents (Elt F))]

end Lists

variable (V : Valuation τ sig (Elt Ideal))

abbrev rd (V : Valuation τ sig (Elt Ideal)) (b : Ref sig .tc) : b.ty.Contents (Elt Ideal) := V (Proc.devRef .tc b)

theorem A_v0 : rd (StableHlo.after (opsA (F := Ideal)) V) main_v0 = rSqrt (rd V main_arg0) := by
  unfold rd opsA
  after_results
  try simp only [StableHlo.TRef.ofBuf_toBuf]
  try rfl

theorem B_v4 : rd (StableHlo.after (opsB (F := Ideal)) V) main_v4 = rQuot (rd V main_arg0) (rd V main_v0) := by
  unfold rd opsB
  after_results
  try simp only [StableHlo.TRef.ofBuf_toBuf]
  try rfl

theorem B_v6 : rd (StableHlo.after (opsB (F := Ideal)) V) main_v6 = rDot (rd V main_arg1) (rQuot (rd V main_arg0) (rd V main_v0)) := by
  unfold rd opsB
  after_results
  try simp only [StableHlo.TRef.ofBuf_toBuf]
  try rfl

theorem C_v7 : rd (StableHlo.after (opsC (F := Ideal)) V) main_v7 = rArg (rd V main_v6) := by
  unfold rd opsC
  after_results
  try simp only [StableHlo.TRef.ofBuf_toBuf]
  try rfl

theorem D_v9 : rd (StableHlo.after (opsD (F := Ideal)) V) main_v9 = rMeans (rd V main_arg1) := by
  unfold rd opsD
  after_results
  try simp only [StableHlo.TRef.ofBuf_toBuf]
  try rfl

theorem D_v11 : rd (StableHlo.after (opsD (F := Ideal)) V) main_v11 = rIdx (rd V main_v7) := by
  unfold rd opsD
  after_results
  try simp only [StableHlo.TRef.ofBuf_toBuf]
  try rfl

theorem E_v5 : rd (StableHlo.after (opsE (F := Ideal)) V) main_call2_v5 = rWrap (rd V main_v11) := by
  unfold rd opsE
  after_results
  try simp only [StableHlo.TRef.ofBuf_toBuf]
  try rfl

theorem F_v11 : rd (StableHlo.after (opsF (F := Ideal)) V) main_call2_v11 = rOk (rd V main_call2_v5) := by
  unfold rd opsF
  after_results
  try simp only [StableHlo.TRef.ofBuf_toBuf]
  try rfl

theorem put_v12 (v : IVec S2x16x4096x64 1) :
    main_call2.v12.toBuf (Val := Elt Ideal) v = v := rfl

theorem get_v11 (v : IVec S2x16x4096x64x1 1) :
    main_call2.v11.ofBuf (Val := Elt Ideal) v = v := rfl

theorem G_v12 : rd (StableHlo.after (opsG (F := Ideal)) V) main_call2_v12 = rAll (rd V main_call2_v11) := by
  unfold rd opsG
  after_results
  simp only [StableHlo.TRef.ofBuf_toBuf]
  exact (put_v12 _).trans (congrArg rAll (get_v11 _))

theorem G_keeps_arg0 : rd (StableHlo.after (opsG (F := Ideal)) V) main_arg0 = rd V main_arg0 := by
  unfold rd opsG
  after_results
  try simp only [StableHlo.TRef.ofBuf_toBuf]
  try rfl

theorem G_keeps_arg1 : rd (StableHlo.after (opsG (F := Ideal)) V) main_arg1 = rd V main_arg1 := by
  unfold rd opsG
  after_results
  try simp only [StableHlo.TRef.ofBuf_toBuf]
  try rfl

theorem G_keeps_v4 : rd (StableHlo.after (opsG (F := Ideal)) V) main_v4 = rd V main_v4 := by
  unfold rd opsG
  after_results
  try simp only [StableHlo.TRef.ofBuf_toBuf]
  try rfl

theorem G_keeps_v6 : rd (StableHlo.after (opsG (F := Ideal)) V) main_v6 = rd V main_v6 := by
  unfold rd opsG
  after_results
  try simp only [StableHlo.TRef.ofBuf_toBuf]
  try rfl

theorem G_keeps_v9 : rd (StableHlo.after (opsG (F := Ideal)) V) main_v9 = rd V main_v9 := by
  unfold rd opsG
  after_results
  try simp only [StableHlo.TRef.ofBuf_toBuf]
  try rfl

theorem G_keeps_call2_v5 : rd (StableHlo.after (opsG (F := Ideal)) V) main_call2_v5 = rd V main_call2_v5 := by
  unfold rd opsG
  after_results
  try simp only [StableHlo.TRef.ofBuf_toBuf]
  try rfl

theorem H_v12 : rd (StableHlo.after (opsH (F := Ideal)) V) main_v12 = rSel (rd V main_call2_v12) (rd V main_v9) (rd V main_call2_v5) := by
  unfold rd opsH
  after_results
  try simp only [StableHlo.TRef.ofBuf_toBuf]
  try rfl

theorem I_v17 : rd (StableHlo.after (opsI (F := Ideal)) V) main_v17 = rMean (rSub (rd V main_v4) (rd V main_v12)) := by
  unfold rd opsI
  after_results
  try simp only [StableHlo.TRef.ofBuf_toBuf]
  try rfl

theorem A_keeps_arg0 : rd (StableHlo.after (opsA (F := Ideal)) V) main_arg0 = rd V main_arg0 := by
  unfold rd opsA
  after_results
  try simp only [StableHlo.TRef.ofBuf_toBuf]
  try rfl

theorem A_keeps_arg1 : rd (StableHlo.after (opsA (F := Ideal)) V) main_arg1 = rd V main_arg1 := by
  unfold rd opsA
  after_results
  try simp only [StableHlo.TRef.ofBuf_toBuf]
  try rfl

theorem B_keeps_arg0 : rd (StableHlo.after (opsB (F := Ideal)) V) main_arg0 = rd V main_arg0 := by
  unfold rd opsB
  after_results
  try simp only [StableHlo.TRef.ofBuf_toBuf]
  try rfl

theorem B_keeps_arg1 : rd (StableHlo.after (opsB (F := Ideal)) V) main_arg1 = rd V main_arg1 := by
  unfold rd opsB
  after_results
  try simp only [StableHlo.TRef.ofBuf_toBuf]
  try rfl

theorem C_keeps_arg0 : rd (StableHlo.after (opsC (F := Ideal)) V) main_arg0 = rd V main_arg0 := by
  unfold rd opsC
  after_results
  try simp only [StableHlo.TRef.ofBuf_toBuf]
  try rfl

theorem C_keeps_arg1 : rd (StableHlo.after (opsC (F := Ideal)) V) main_arg1 = rd V main_arg1 := by
  unfold rd opsC
  after_results
  try simp only [StableHlo.TRef.ofBuf_toBuf]
  try rfl

theorem C_keeps_v4 : rd (StableHlo.after (opsC (F := Ideal)) V) main_v4 = rd V main_v4 := by
  unfold rd opsC
  after_results
  try simp only [StableHlo.TRef.ofBuf_toBuf]
  try rfl

theorem C_keeps_v6 : rd (StableHlo.after (opsC (F := Ideal)) V) main_v6 = rd V main_v6 := by
  unfold rd opsC
  after_results
  try simp only [StableHlo.TRef.ofBuf_toBuf]
  try rfl

theorem D_keeps_arg0 : rd (StableHlo.after (opsD (F := Ideal)) V) main_arg0 = rd V main_arg0 := by
  unfold rd opsD
  after_results
  try simp only [StableHlo.TRef.ofBuf_toBuf]
  try rfl

theorem D_keeps_arg1 : rd (StableHlo.after (opsD (F := Ideal)) V) main_arg1 = rd V main_arg1 := by
  unfold rd opsD
  after_results
  try simp only [StableHlo.TRef.ofBuf_toBuf]
  try rfl

theorem D_keeps_v4 : rd (StableHlo.after (opsD (F := Ideal)) V) main_v4 = rd V main_v4 := by
  unfold rd opsD
  after_results
  try simp only [StableHlo.TRef.ofBuf_toBuf]
  try rfl

theorem D_keeps_v6 : rd (StableHlo.after (opsD (F := Ideal)) V) main_v6 = rd V main_v6 := by
  unfold rd opsD
  after_results
  try simp only [StableHlo.TRef.ofBuf_toBuf]
  try rfl

theorem E_keeps_arg0 : rd (StableHlo.after (opsE (F := Ideal)) V) main_arg0 = rd V main_arg0 := by
  unfold rd opsE
  after_results
  try simp only [StableHlo.TRef.ofBuf_toBuf]
  try rfl

theorem E_keeps_arg1 : rd (StableHlo.after (opsE (F := Ideal)) V) main_arg1 = rd V main_arg1 := by
  unfold rd opsE
  after_results
  try simp only [StableHlo.TRef.ofBuf_toBuf]
  try rfl

theorem E_keeps_v4 : rd (StableHlo.after (opsE (F := Ideal)) V) main_v4 = rd V main_v4 := by
  unfold rd opsE
  after_results
  try simp only [StableHlo.TRef.ofBuf_toBuf]
  try rfl

theorem E_keeps_v6 : rd (StableHlo.after (opsE (F := Ideal)) V) main_v6 = rd V main_v6 := by
  unfold rd opsE
  after_results
  try simp only [StableHlo.TRef.ofBuf_toBuf]
  try rfl

theorem E_keeps_v9 : rd (StableHlo.after (opsE (F := Ideal)) V) main_v9 = rd V main_v9 := by
  unfold rd opsE
  after_results
  try simp only [StableHlo.TRef.ofBuf_toBuf]
  try rfl

theorem F_keeps_arg0 : rd (StableHlo.after (opsF (F := Ideal)) V) main_arg0 = rd V main_arg0 := by
  unfold rd opsF
  after_results
  try simp only [StableHlo.TRef.ofBuf_toBuf]
  try rfl

theorem F_keeps_arg1 : rd (StableHlo.after (opsF (F := Ideal)) V) main_arg1 = rd V main_arg1 := by
  unfold rd opsF
  after_results
  try simp only [StableHlo.TRef.ofBuf_toBuf]
  try rfl

theorem F_keeps_v4 : rd (StableHlo.after (opsF (F := Ideal)) V) main_v4 = rd V main_v4 := by
  unfold rd opsF
  after_results
  try simp only [StableHlo.TRef.ofBuf_toBuf]
  try rfl

theorem F_keeps_v6 : rd (StableHlo.after (opsF (F := Ideal)) V) main_v6 = rd V main_v6 := by
  unfold rd opsF
  after_results
  try simp only [StableHlo.TRef.ofBuf_toBuf]
  try rfl

theorem F_keeps_v9 : rd (StableHlo.after (opsF (F := Ideal)) V) main_v9 = rd V main_v9 := by
  unfold rd opsF
  after_results
  try simp only [StableHlo.TRef.ofBuf_toBuf]
  try rfl

theorem F_keeps_call2_v5 : rd (StableHlo.after (opsF (F := Ideal)) V) main_call2_v5 = rd V main_call2_v5 := by
  unfold rd opsF
  after_results
  try simp only [StableHlo.TRef.ofBuf_toBuf]
  try rfl

theorem H_keeps_arg0 : rd (StableHlo.after (opsH (F := Ideal)) V) main_arg0 = rd V main_arg0 := by
  unfold rd opsH
  after_results
  try simp only [StableHlo.TRef.ofBuf_toBuf]
  try rfl

theorem H_keeps_arg1 : rd (StableHlo.after (opsH (F := Ideal)) V) main_arg1 = rd V main_arg1 := by
  unfold rd opsH
  after_results
  try simp only [StableHlo.TRef.ofBuf_toBuf]
  try rfl

theorem H_keeps_v4 : rd (StableHlo.after (opsH (F := Ideal)) V) main_v4 = rd V main_v4 := by
  unfold rd opsH
  after_results
  try simp only [StableHlo.TRef.ofBuf_toBuf]
  try rfl

theorem H_keeps_v6 : rd (StableHlo.after (opsH (F := Ideal)) V) main_v6 = rd V main_v6 := by
  unfold rd opsH
  after_results
  try simp only [StableHlo.TRef.ofBuf_toBuf]
  try rfl

theorem I_keeps_arg0 : rd (StableHlo.after (opsI (F := Ideal)) V) main_arg0 = rd V main_arg0 := by
  unfold rd opsI
  after_results
  try simp only [StableHlo.TRef.ofBuf_toBuf]
  try rfl

theorem I_keeps_arg1 : rd (StableHlo.after (opsI (F := Ideal)) V) main_arg1 = rd V main_arg1 := by
  unfold rd opsI
  after_results
  try simp only [StableHlo.TRef.ofBuf_toBuf]
  try rfl

theorem I_keeps_v6 : rd (StableHlo.after (opsI (F := Ideal)) V) main_v6 = rd V main_v6 := by
  unfold rd opsI
  after_results
  try simp only [StableHlo.TRef.ofBuf_toBuf]
  try rfl

theorem after_two (l₁ l₂ : List Op) : StableHlo.after (l₁ ++ l₂) V = StableHlo.after l₂ (StableHlo.after l₁ V) := by
  induction l₁ generalizing V with
  | nil => rfl
  | cons o l ih => exact ih _

/-- The reference's operations, in order. -/
def opsAll : List Op := opsA (F := Ideal) ++ (opsB ++ (opsC ++ (opsD ++ (opsE ++ (opsF ++ (opsG ++ (opsH ++ opsI)))))))

theorem all_arg0 : rd (StableHlo.after opsAll V) main_arg0 = rd V main_arg0 := by
  unfold opsAll
  simp only [after_two]
  rw [I_keeps_arg0, H_keeps_arg0, G_keeps_arg0, F_keeps_arg0, E_keeps_arg0, D_keeps_arg0, C_keeps_arg0, B_keeps_arg0, A_keeps_arg0]

theorem all_arg1 : rd (StableHlo.after opsAll V) main_arg1 = rd V main_arg1 := by
  unfold opsAll
  simp only [after_two]
  rw [I_keeps_arg1, H_keeps_arg1, G_keeps_arg1, F_keeps_arg1, E_keeps_arg1, D_keeps_arg1, C_keeps_arg1, B_keeps_arg1, A_keeps_arg1]

theorem all_v6 : rd (StableHlo.after opsAll V) main_v6 = rDists (rd V main_arg0) (rd V main_arg1) := by
  unfold opsAll
  simp only [after_two]
  rw [I_keeps_v6, H_keeps_v6, G_keeps_v6, F_keeps_v6, E_keeps_v6, D_keeps_v6, C_keeps_v6, B_v6, A_v0, A_keeps_arg0, A_keeps_arg1]
  rfl

theorem all_v17 : rd (StableHlo.after opsAll V) main_v17 = rLoss (rd V main_arg0) (rd V main_arg1) := by
  unfold opsAll
  simp only [after_two]
  rw [I_v17, H_v12, H_keeps_v4, G_v12, G_keeps_v4, G_keeps_v9, G_keeps_call2_v5, F_v11, F_keeps_v4, F_keeps_v9, F_keeps_call2_v5, E_keeps_v4, E_keeps_v9, E_v5,
    D_keeps_v4, D_v9, D_v11, C_keeps_v4, C_keeps_arg1, C_v7, B_v4, B_keeps_arg1, B_v6, A_v0, A_keeps_arg0, A_keeps_arg1]
  rfl

theorem main_seq (d : Dev nD) : StableHlo.IsSeq (main (F := Ideal) d) opsAll := rfl

theorem run_all (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b)
        = rd (StableHlo.after opsAll (StableHlo.launchContents m d)) b :=
  StableHlo.run_hlo _ _ main_seq (by decide) (by decide) (by unfold opsAll opsA opsB opsC opsD opsE opsF opsG opsH opsI; simp)
    (by unfold opsAll opsA opsB opsC opsD opsE opsF opsG opsH opsI
        intro _ h; (repeat (cases h with | head => rfl | tail _ h => ?_)); exact nomatch h) m g

variable (m : (ℓ : Loc nD τ sig) → Buf (Elt Ideal) ℓ)

abbrev refX (c : Dev nD) : FVec Ideal S2x16x4096x64 .f32 := m ((c.tc : Thread nD τ).loc main_arg0)
abbrev refM (c : Dev nD) : FVec Ideal S16x512x64 .f32 := m ((c.tc : Thread nD τ).loc main_arg1)

theorem run_ref (g : Dev nD → PrngReg) :
    θ_run (defs (F := Ideal)) (onTc (τ := τ) (main (F := Ideal))) ⟨m, fun _ => 0, g⟩ (fun r => (∀ c : Dev nD,
      r.2.mem ((c.tc : Thread nD τ).loc main_v6) = rDists (refX m c) (refM m c)
      ∧ r.2.mem ((c.tc : Thread nD τ).loc main_v17) = rLoss (refX m c) (refM m c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_mono (run_all m g) fun r hr =>
    ⟨fun c => ⟨(hr c _).trans (all_v6 _), (hr c _).trans (all_v17 _), (hr c _).trans (all_arg0 _), (hr c _).trans (all_arg1 _)⟩,
      sem_eq_zero_of_no_sems (by decide) _⟩

theorem frame_ref : Cert.quiescent_ReferenceIdeal := by
  intro m g hpre
  exact θ_run_mono (run_ref m g) fun r hr => ⟨fun c => ⟨(hr.1 c).2.2.1, (hr.1 c).2.2.2⟩, hr.2⟩

end Cert.Proof.Run

end
-- ==== Proof.RefValue.lean ====
module

public import proofs.«01_k».proof.Proof.RefRun
public import proofs.«01_k».proof.Proof.Argmax
public import Idealize.ShloMosaic.Lib.Pointwise

/-! The reference's two results at an index: the distances, the place of each vector's largest distance, the means
    taken at those places, and the loss as one sum. -/

@[expose] public section

set_option maxRecDepth 16384

noncomputable section

namespace Cert.Proof.Run

open Cert.ReferenceIdeal Cert.ReferenceIdeal.Gen
open Idealize.ShloMosaic

variable (X : FVec Ideal S2x16x4096x64 .f32) (M : FVec Ideal S16x512x64 .f32)

theorem eps_pos : 0 < eps := by
  unfold eps
  simp [Ideal.ofBits, Ideal.ieee]
  exact_mod_cast (by positivity : (0 : ℝ) < (9223372 : ℝ) * ((2 : ℝ) ^ 63)⁻¹)

theorem max_eps_ne (a : EReal) : max a eps ≠ 0 := (lt_max_of_lt_right eps_pos).ne'

/-- A quotient is a product with the reciprocal, off zero. -/
theorem div_eq_mul (x n : EReal) (hn : n ≠ 0) : Ideal.div x n = x * Ideal.div 1 n := by
  unfold Ideal.div
  rw [if_neg hn, if_neg hn, one_mul]

theorem rXn_at (b : Fin 2) (h : Fin 16) (l : Fin 4096) (d : Fin 64) :
    rXn X (ix4 b h l d) = X (ix4 b h l d) * rnorm (xs X b h) l := by
  pointwise [rXn, rQuot, rSqrt]
  exact div_eq_mul _ _ (max_eps_ne _)

theorem rDists_at (b : Fin 2) (h : Fin 16) (l : Fin 4096) (k : Fin 512) :
    rDists X M (ix4 b h l k) = dotN (xs X b h) (ms M h) l k := by
  have : rDists X M (ix4 b h l k) = ∑ x : Fin 64, M (ix3 h k x) * rXn X (ix4 b h l x) := by
    pointwise [rDists, rDot]
  rw [this]
  unfold dotN
  refine Finset.sum_congr rfl fun x _ => ?_
  rw [rXn_at, mul_comm]
  rfl

theorem dotN_eq (v1 : Vec Ideal Cert.KernelIdeal.S1x1x64x4096 .f32) (v3 : Vec Ideal Cert.KernelIdeal.S1x64x512 .f32)
    (l : Fin 4096) (k : Fin 512) : dotN v1 v3 l k = dotT v1 v3 k l := by
  unfold dotN dotT
  exact Finset.sum_congr rfl fun x _ => mul_comm _ _

theorem rDists_eq : rDists X M = outD X M := by
  funext y
  obtain ⟨b, h, l, k, rfl⟩ : ∃ (b : Fin 2) (h : Fin 16) (l : Fin 4096) (k : Fin 512), y = ix4 b h l k :=
    ⟨y 0, y 1, y 2, y 3, by blk_ext []⟩
  exact rDists_at X M b h l k

theorem drop_at (b : Fin 2) (h : Fin 16) (l : Fin 4096) (y : S2x16x4096x512.Idx) :
    reducesTo_S2x16x4096x512_S2x16x4096_d3.drop y = ix3 b h l ↔ ∃ j : Fin 512, y = ix4 b h l j := by
  constructor
  · intro e
    have h0 := congrArg Fin.val (congrFun e 0)
    have h1 := congrArg Fin.val (congrFun e 1)
    have h2 := congrArg Fin.val (congrFun e 2)
    rw [Shape.ReducesTo.drop_apply_val_of_eq _ _ _ 0] at h0
    rw [Shape.ReducesTo.drop_apply_val_of_eq _ _ _ 1] at h1
    rw [Shape.ReducesTo.drop_apply_val_of_eq _ _ _ 2] at h2
    refine ⟨y 3, ?_⟩
    funext a
    refine Fin.ext ?_
    match a with
    | ⟨0, _⟩ => exact h0
    | ⟨1, _⟩ => exact h1
    | ⟨2, _⟩ => exact h2
    | ⟨3, _⟩ => rfl
  · rintro ⟨j, rfl⟩
    funext a
    refine Fin.ext ?_
    match a with
    | ⟨0, _⟩ => exact Shape.ReducesTo.drop_apply_val_of_eq reducesTo_S2x16x4096x512_S2x16x4096_d3 (ix4 b h l j) 0 0
    | ⟨1, _⟩ => exact Shape.ReducesTo.drop_apply_val_of_eq reducesTo_S2x16x4096x512_S2x16x4096_d3 (ix4 b h l j) 1 1
    | ⟨2, _⟩ => exact Shape.ReducesTo.drop_apply_val_of_eq reducesTo_S2x16x4096x512_S2x16x4096_d3 (ix4 b h l j) 2 2

theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨n, hn, rfl⟩
    exact ⟨s.rowMajor.symm n, of_decide_eq_true (List.mem_filter.mp hn).2, rfl⟩
  · rintro ⟨i, hi, rfl⟩
    refine ⟨s.rowMajor i, List.mem_filter.mpr ⟨List.mem_finRange _, ?_⟩, ?_⟩
    · rw [Equiv.symm_apply_apply]
      exact decide_eq_true hi
    · rw [Equiv.symm_apply_apply]

theorem iota_at (b : Fin 2) (h : Fin 16) (l : Fin 4096) (j : Fin 512) :
    iotaInDim S2x16x4096x512 32 3 (ix4 b h l j) = BitVec.ofNat 32 j.val := by
  pointwise

theorem argReduce_at {s t u : Shape} {axes : List (Fin s.rank)} (x : FVec Ideal s .f32) (y : IVec s 32) (ix : FVec Ideal u .f32)
    (iy : IVec u 32) (h : s.ReducesTo axes t) (hu : 0 < u.numel) (j : t.Idx) (hx : ix (Shape.Idx.first hu) = (⊥ : EReal))
    (hy : iy (Shape.Idx.first hu) = 0#32) {f : Fin 512 → EReal} {k : Fin 512} (hk : IsFirst f k)
    (hf : ∀ i, h.drop i = j → ∃ c : Fin 512, x i = f c ∧ y i = BitVec.ofNat 32 c.val)
    (hs : ∀ c : Fin 512, ∃ i, h.drop i = j ∧ x i = f c ∧ y i = BitVec.ofNat 32 c.val) (A : t.Idx → Ideal .f32 × BitVec 32)
    (hA : A = Host.argReduce (reducer_argmax_f32_i32 (F := Ideal)) x y ix iy h hu) : (A j).2 = BitVec.ofNat 32 k.val := by
  rw [hA, Ideal.argReduce_eq_reduce2, Host.reduce2_eq_foldl_fiber, hx, hy]
  refine foldl_red_eq hk _ fun p => ?_
  rw [mem_fiber]
  constructor
  · rintro ⟨i, hi, rfl⟩
    obtain ⟨c, h1, h2⟩ := hf i hi
    exact ⟨c, Prod.ext h1 h2⟩
  · rintro ⟨c, rfl⟩
    obtain ⟨i, hi, h1, h2⟩ := hs c
    exact ⟨i, hi, Prod.ext h1.symm h2.symm⟩

theorem rArg_def (D : FVec Ideal S2x16x4096x512 .f32) : rArg D = fun j => (rArgs D j).2 := rfl

theorem rArgs_eq (D : FVec Ideal S2x16x4096x512 .f32) : rArgs D = Host.argReduce (reducer_argmax_f32_i32 (F := Ideal)) D
    (iotaInDim S2x16x4096x512 32 3) (constant S_ .f32 0xFF800000#32) (constantI S_ 32 0#32)
    reducesTo_S2x16x4096x512_S2x16x4096_d3 h_S_ := by
  unfold rArgs
  rfl

theorem rArgs_at (D : FVec Ideal S2x16x4096x512 .f32) (b : Fin 2) (h : Fin 16) (l : Fin 4096) {k : Fin 512}
    (hk : IsFirst (fun c => D (ix4 b h l c)) k) : (rArgs D (ix3 b h l)).2 = BitVec.ofNat 32 k.val := by
  refine argReduce_at D (iotaInDim S2x16x4096x512 32 3) (constant S_ .f32 0xFF800000#32) (constantI S_ 32 0#32)
    reducesTo_S2x16x4096x512_S2x16x4096_d3 h_S_ (ix3 b h l) ofBits_negInf rfl hk (fun i hi => ?_) (fun c => ?_) (rArgs D) (rArgs_eq D)
  · obtain ⟨j, rfl⟩ := (drop_at b h l i).mp hi
    exact ⟨j, rfl, iota_at b h l j⟩
  · exact ⟨ix4 b h l c, (drop_at b h l _).mpr ⟨c, rfl⟩, rfl, iota_at b h l c⟩

theorem rArg_at (D : FVec Ideal S2x16x4096x512 .f32) (b : Fin 2) (h : Fin 16) (l : Fin 4096) {k : Fin 512}
    (hk : IsFirst (fun c => D (ix4 b h l c)) k) : rArg D (ix3 b h l) = BitVec.ofNat 32 k.val :=
  (congrFun (rArg_def D) _).trans (rArgs_at D b h l hk)

theorem rWrap_at (A : IVec S2x16x4096x64 32) (b : Fin 2) (h : Fin 16) (l : Fin 4096) (d : Fin 64) (k : Fin 512)
    (hk : A (ix4 b h l d) = BitVec.ofNat 32 k.val) : rWrap A (ix5 b h l d 0) = BitVec.ofNat 32 k.val := by
  have hs := toInt_small k.val (by omega)
  pointwise [rWrap]
  rw [hk]
  have h0 : IntOp.cmpi CmpIPredicate.slt (BitVec.ofNat 32 k.val) 0#32 = 0#1 := by
    unfold IntOp.cmpi
    have : ¬ ((k.val : ℤ) < 0) := by omega
    simp [BitVec.slt, hs, this]
  rw [h0]
  rfl

theorem rIn_at (J : IVec S2x16x4096x64x1 32) (b : Fin 2) (h : Fin 16) (l : Fin 4096) (d : Fin 64) (k : Fin 512)
    (hk : J (ix5 b h l d 0) = BitVec.ofNat 32 k.val) : rIn J (ix4 b h l d) = 1#1 := by
  have hs := toInt_small k.val (by omega)
  have hl := k.isLt
  have h1 : rOk J (ix5 b h l d 0) = 1#1 := by
    pointwise [rOk]
    rw [hk]
    have h5 : (511#32).toInt = 511 := by decide
    have e1 : IntOp.cmpi CmpIPredicate.sge (BitVec.ofNat 32 k.val) 0#32 = 1#1 := by
      unfold IntOp.cmpi
      have : (0 : ℤ) ≤ (k.val : ℤ) := by omega
      simp [BitVec.sle, hs, this]
    have e2 : IntOp.cmpi CmpIPredicate.sle (BitVec.ofNat 32 k.val) 511#32 = 1#1 := by
      unfold IntOp.cmpi
      have : (k.val : ℤ) ≤ 511 := by omega
      simp [BitVec.sle, hs, h5, this]
    rw [e1, e2]
    rfl
  have h2 : rIn J (ix4 b h l d) = Finset.fold IntOp.andi (1#1) (fun x : Fin 1 => rOk J (ix5 b h l d x)) Finset.univ := by
    pointwise [rIn, rAll]
  rw [h2]
  simp [h1, IntOp.andi]

theorem gather_at (Mb : FVec Ideal S2x16x512x64 .f32) (J : IVec S2x16x4096x64x1 32) (b : Fin 2) (h : Fin 16) (l : Fin 4096)
    (d : Fin 64) (k : Fin 512) (hk : J (ix5 b h l d 0) = BitVec.ofNat 32 k.val) :
    Host.gather gather_S2x16x512x64_S2x16x4096x64x1_S2x16x4096x64_n_2_013_013_2_4_1111 Mb J (ix4 b h l d) = Mb (ix4 b h k d) := by
  unfold Host.gather
  congr 1
  funext a
  refine Fin.ext ?_
  show gather_S2x16x512x64_S2x16x4096x64x1_S2x16x4096x64_n_2_013_013_2_4_1111.start (ix4 b h l d) J a
      + gather_S2x16x512x64_S2x16x4096x64x1_S2x16x4096x64_n_2_013_013_2_4_1111.batchCoord (ix4 b h l d) a
      + gather_S2x16x512x64_S2x16x4096x64x1_S2x16x4096x64_n_2_013_013_2_4_1111.offCoord (ix4 b h l d) a = _
  have ha : a = 2 ∨ a ∈ gather_S2x16x512x64_S2x16x4096x64x1_S2x16x4096x64_n_2_013_013_2_4_1111.operandBatchingDims := by
    revert a; decide
  rcases ha with rfl | ha
  · rw [GatherDims.batchCoord_eq_zero _ _ _ (by decide),
      GatherDims.offCoord_eq_zero _ _ _ (fun q => ((GatherDims.mem_sKept _ _).mp q).1 (by decide))]
    unfold GatherDims.start
    rw [dif_pos (by decide)]
    have hi : gather_S2x16x512x64_S2x16x4096x64x1_S2x16x4096x64_n_2_013_013_2_4_1111.siIdx (ix4 b h l d)
        ⟨List.idxOf (2 : Fin 4) gather_S2x16x512x64_S2x16x4096x64x1_S2x16x4096x64_n_2_013_013_2_4_1111.startIndexMap,
          List.idxOf_lt_length_iff.2 (by decide)⟩ = ix5 b h l d 0 := by
      funext z
      refine Fin.ext ?_
      match z with
      | ⟨0, _⟩ => rfl
      | ⟨1, _⟩ => rfl
      | ⟨2, _⟩ => rfl
      | ⟨3, _⟩ => rfl
      | ⟨4, _⟩ => rfl
    rw [hi, hk]
    rw [toInt_small k.val (by omega)]
    show min ((k.val : ℤ).toNat) (512 - 1) + 0 + 0 = k.val
    omega
  · rw [GatherDims.start_batching _ _ _ _ ha, GatherDims.offCoord_eq_zero _ _ _ (fun q => ((GatherDims.mem_sKept _ _).mp q).2 ha)]
    unfold GatherDims.batchCoord
    rw [dif_pos ha, Nat.zero_add, Nat.add_zero]
    have ha' : a = 0 ∨ a = 1 ∨ a = 3 := by
      revert a; decide
    rcases ha' with rfl | rfl | rfl
    · rfl
    · rfl
    · rfl

theorem rTake_at (b : Fin 2) (h : Fin 16) (l : Fin 4096) (d : Fin 64) (A : IVec S2x16x4096 32) (k : Fin 512)
    (hk : A (ix3 b h l) = BitVec.ofNat 32 k.val) : rTake (rMeans M) (rIdx A) (ix4 b h l d) = M (ix3 h k d) := by
  have h1 : rIdx A (ix4 b h l d) = BitVec.ofNat 32 k.val := by
    pointwise [rIdx]
    exact hk
  have h2 := rWrap_at (rIdx A) b h l d k h1
  have h3 := rIn_at _ b h l d k h2
  have h4 := gather_at (rMeans M) _ b h l d k h2
  have h5 : rMeans M (ix4 b h k d) = M (ix3 h k d) := by
    pointwise [rMeans]
  have h6 : rTake (rMeans M) (rIdx A) (ix4 b h l d) = Scalar.select (rIn (rWrap (rIdx A)) (ix4 b h l d))
      (Host.gather gather_S2x16x512x64_S2x16x4096x64x1_S2x16x4096x64_n_2_013_013_2_4_1111 (rMeans M) (rWrap (rIdx A)) (ix4 b h l d))
      (broadcastInDim S2x16x4096x64 ![] bcast_S_S2x16x4096x64 (constant (F := Ideal) S_ .f32 0x7FC00000#32) (ix4 b h l d)) := rfl
  rw [h6, h3, h4, h5]
  rfl

/-- One vector less its mean, squared and summed. -/
def sqDist (b : Fin 2) (h : Fin 16) (l : Fin 4096) (k : Fin 512) : EReal :=
  ∑ d : Fin 64, (X (ix4 b h l d) * rnorm (xs X b h) l - M (ix3 h k d)) * (X (ix4 b h l d) * rnorm (xs X b h) l - M (ix3 h k d))

theorem rDiff_at (b : Fin 2) (h : Fin 16) (l : Fin 4096) (d : Fin 64) {k : Fin 512}
    (hk : IsFirst (fun c => dotT (xs X b h) (ms M h) c l) k) :
    rDiff X M (ix4 b h l d) = X (ix4 b h l d) * rnorm (xs X b h) l - M (ix3 h k d) := by
  have hk' : IsFirst (fun c => rDists X M (ix4 b h l c)) k := by
    have : (fun c => rDists X M (ix4 b h l c)) = fun c => dotT (xs X b h) (ms M h) c l :=
      funext fun c => (rDists_at X M b h l c).trans (dotN_eq _ _ _ _)
    rw [this]
    exact hk
  have h1 := rTake_at M b h l d _ k (rArg_at _ b h l hk')
  have h2 : rDiff X M (ix4 b h l d) = rXn X (ix4 b h l d) - rTake (rMeans M) (rIdx (rArg (rDists X M))) (ix4 b h l d) := rfl
  rw [h2, h1, rXn_at]

theorem rLoss_at (p : Fin 2 → Fin 16 → Fin 4096 → Fin 512)
    (hp : ∀ b h l, IsFirst (fun c => dotT (xs X b h) (ms M h) c l) (p b h l)) (j : S_.Idx) :
    rLoss X M j = Ideal.div (∑ b : Fin 2, ∑ h : Fin 16, ∑ l : Fin 4096, sqDist X M b h l (p b h l)) (Ideal.ofBits .f32 1258291200#32)
      * Ideal.ofBits .f32 953267991#32 := by
  have h1 : ∀ A : FVec Ideal S2x16x4096x64 .f32, rMean A j
      = Ideal.div (Ideal.hostReduceAdd reducesTo_S2x16x4096x64_S_d0_1_2_3 (mulf A A) 0 j) (Ideal.ofBits .f32 1258291200#32)
        * Ideal.ofBits .f32 953267991#32 := fun A => by
    pointwise [rMean]
  unfold rLoss
  rw [h1, Ideal.hostReduceAdd_total _ (fun b => b.elim0), zero_add, sum_idx4]
  refine congrArg (fun z => Ideal.div z (Ideal.ofBits .f32 1258291200#32) * Ideal.ofBits .f32 953267991#32) ?_
  refine Finset.sum_congr rfl fun b _ => Finset.sum_congr rfl fun h _ => Finset.sum_congr rfl fun l _ => ?_
  unfold sqDist
  refine Finset.sum_congr rfl fun d _ => ?_
  rw [← rDiff_at X M b h l d (hp b h l)]
  rfl

end Cert.Proof.Run

end
-- ==== Proof.Loss.lean ====
module

public import proofs.«01_k».proof.Proof.KernelSum
public import proofs.«01_k».proof.Proof.RefValue
public import proofs.«01_k».proof.Proof.Gen.Pre_finite
public import Idealize.ShloMosaic.Lib.ReduceAll

/-! The two losses are one number when every element is finite: a squared distance is the vector's squared length, less
    twice the inner product, and the mean's squared length. -/

@[expose] public section

set_option maxRecDepth 16384

noncomputable section

namespace Cert.Proof.Run

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One head -/

section
variable (v1 : Vec Ideal Cert.KernelIdeal.S1x1x64x4096 .f32) (v3 : Vec Ideal Cert.KernelIdeal.S1x64x512 .f32)

theorem ssq_coe (x : Fin 64 → Fin 4096 → ℝ) (hx : ∀ d l, v1 (ix4 0 0 d l) = (x d l : EReal)) (l : Fin 4096) :
    ssq v1 l = ((∑ d : Fin 64, x d l * x d l : ℝ) : EReal) := by
  unfold ssq
  rw [coe_sum]
  exact Finset.sum_congr rfl fun d _ => by rw [hx, EReal.coe_mul]

theorem eps_coe : ∃ e : ℝ, 0 < e ∧ eps = (e : EReal) := by
  refine ⟨9223372 * ((2 : ℝ) ^ 63)⁻¹, by positivity, ?_⟩
  unfold eps
  simp [Ideal.ofBits, Ideal.ieee]

theorem rnorm_coe (x : Fin 64 → Fin 4096 → ℝ) (hx : ∀ d l, v1 (ix4 0 0 d l) = (x d l : EReal)) (l : Fin 4096) :
    ∃ r : ℝ, rnorm v1 l = (r : EReal) := by
  obtain ⟨e, he, hE⟩ := eps_coe
  have h0 : ¬ (∑ d : Fin 64, x d l * x d l) < 0 := not_lt.2 (Finset.sum_nonneg fun d _ => mul_self_nonneg _)
  have hm : max (Real.sqrt (∑ d : Fin 64, x d l * x d l)) e ≠ 0 := (lt_max_of_lt_right he).ne'
  refine ⟨1 / max (Real.sqrt (∑ d : Fin 64, x d l * x d l)) e, ?_⟩
  unfold rnorm
  rw [ssq_coe v1 x hx l, Ideal.sqrt_coe, if_neg h0, hE, ← EReal.coe_strictMono.monotone.map_max, Ideal.div_coe hm, one_mul]

/-- A vector's squared distance to one mean. -/
def sqd (l : Fin 4096) (k : Fin 512) : EReal :=
  ∑ d : Fin 64, (v1 (ix4 0 0 d l) * rnorm v1 l - v3 (ix3 0 d k)) * (v1 (ix4 0 0 d l) * rnorm v1 l - v3 (ix3 0 d k))

theorem two_eq : Ideal.ofBits .f32 1073741824#32 = ((2 : ℝ) : EReal) := by
  simp [Ideal.ofBits, Ideal.ieee, -EReal.coe_mul]; norm_num

theorem real_expand (r : ℝ) (x y : Fin 64 → ℝ) :
    ∑ d, (x d * r - y d) * (x d * r - y d) = (∑ d, x d * x d) * r * r - 2 * (∑ d, y d * (x d * r)) + ∑ d, y d * y d := by
  rw [Finset.sum_mul, Finset.sum_mul, Finset.mul_sum, ← Finset.sum_sub_distrib, ← Finset.sum_add_distrib]
  exact Finset.sum_congr rfl fun d _ => by ring

/-- A head's squared distances, added up, are the main call's part and the tiles' part. -/
theorem head_real (hx : ∀ y, ∃ r : ℝ, v1 y = (r : EReal)) (hy : ∀ y, ∃ r : ℝ, v3 y = (r : EReal)) (p : Fin 4096 → Fin 512)
    (hp : ∀ l, IsFirst (fun c => dotT v1 v3 c l) (p l)) :
    ∃ a q : ℝ, headSum v1 v3 = (a : EReal) ∧ ∑ l, msq v3 (p l) = (q : EReal) ∧ ∑ l, sqd v1 v3 l (p l) = ((a + q : ℝ) : EReal) := by
  choose f hf using hx
  choose g hg using hy
  have hx' : ∀ d l, v1 (ix4 0 0 d l) = ((f (ix4 0 0 d l) : ℝ) : EReal) := fun d l => hf _
  choose r hr using rnorm_coe v1 (fun d l => f (ix4 0 0 d l)) hx'
  have hs := ssq_coe v1 (fun d l => f (ix4 0 0 d l)) hx'
  have hd : ∀ l, dotMax v1 v3 l = ((∑ d : Fin 64, g (ix3 0 d (p l)) * (f (ix4 0 0 d l) * r l) : ℝ) : EReal) := fun l => by
    refine (fold_max_eq (hp l)).trans ?_
    unfold dotT
    rw [coe_sum]
    exact Finset.sum_congr rfl fun d _ => by rw [hf, hg, hr, EReal.coe_mul, EReal.coe_mul]
  have hq : ∀ l, msq v3 (p l) = ((∑ d : Fin 64, g (ix3 0 d (p l)) * g (ix3 0 d (p l)) : ℝ) : EReal) := fun l => by
    unfold msq
    rw [coe_sum]
    exact Finset.sum_congr rfl fun d _ => by rw [hg, EReal.coe_mul]
  refine ⟨(∑ l, (∑ d : Fin 64, f (ix4 0 0 d l) * f (ix4 0 0 d l)) * r l * r l) - 2 * ∑ l, ∑ d : Fin 64, g (ix3 0 d (p l)) * (f (ix4 0 0 d l) * r l),
    ∑ l, ∑ d : Fin 64, g (ix3 0 d (p l)) * g (ix3 0 d (p l)), ?_, ?_, ?_⟩
  · unfold headSum
    rw [two_eq, EReal.coe_sub, EReal.coe_mul, coe_sum, coe_sum]
    simp only [hs, hr, hd, EReal.coe_mul]
  · rw [coe_sum]
    exact Finset.sum_congr rfl fun l _ => hq l
  · rw [Finset.mul_sum, ← Finset.sum_sub_distrib, ← Finset.sum_add_distrib, coe_sum]
    refine Finset.sum_congr rfl fun l _ => ?_
    rw [← real_expand, coe_sum]
    unfold sqd
    exact Finset.sum_congr rfl fun d _ => by rw [hf, hg, hr, EReal.coe_mul, EReal.coe_sub, EReal.coe_mul]

end

/-! ## All heads -/

/-- A grid point and one of its two heads name one batch row and one head. -/
def headEquiv : Fin 16 × Fin 2 ≃ Fin 2 × Fin 16 where
  toFun a := (gB a.1, gH a.1 a.2)
  invFun b := (⟨8 * b.1.val + b.2.val / 2, by have := b.1.isLt; have := b.2.isLt; omega⟩, ⟨b.2.val % 2, Nat.mod_lt _ (by decide)⟩)
  left_inv a := by
    have h1 := a.1.isLt; have h2 := a.2.isLt
    refine Prod.ext (Fin.ext ?_) (Fin.ext ?_)
    · show 8 * (a.1.val / 8) + (2 * (a.1.val % 8) + a.2.val) / 2 = a.1.val
      omega
    · show (2 * (a.1.val % 8) + a.2.val) % 2 = a.2.val
      omega
  right_inv b := by
    have h1 := b.1.isLt; have h2 := b.2.isLt
    refine Prod.ext (Fin.ext ?_) (Fin.ext ?_)
    · show (8 * b.1.val + b.2.val / 2) / 8 = b.1.val
      omega
    · show 2 * ((8 * b.1.val + b.2.val / 2) % 8) + b.2.val % 2 = b.2.val
      omega

theorem sum_heads {A : Type} [AddCommMonoid A] (f : Fin 2 → Fin 16 → A) :
    ∑ a : Fin 16, ∑ e : Fin 2, f (gB a) (gH a e) = ∑ b : Fin 2, ∑ h : Fin 16, f b h := by
  rw [← Fintype.sum_prod_type' (fun (a : Fin 16) (e : Fin 2) => f (gB a) (gH a e)), ← Fintype.sum_prod_type' f]
  exact Fintype.sum_equiv headEquiv _ _ fun a => rfl

theorem scale (t : ℝ) : (t : EReal) * Ideal.ofBits .f32 0x2D51B717#32
    = Ideal.div (t : EReal) (Ideal.ofBits .f32 1258291200#32) * Ideal.ofBits .f32 953267991#32 := by
  have h1 : Ideal.ofBits .f32 1258291200#32 = ((8388608 : ℝ) : EReal) := by
    simp [Ideal.ofBits, Ideal.ieee, -EReal.coe_mul]
  have h2 : Ideal.ofBits .f32 953267991#32 = ((13743895 * ((2 : ℝ) ^ 37)⁻¹ : ℝ) : EReal) := by
    simp [Ideal.ofBits, Ideal.ieee, -EReal.coe_mul]
  have h3 : Ideal.ofBits .f32 0x2D51B717#32 = ((13743895 * ((2 : ℝ) ^ 60)⁻¹ : ℝ) : EReal) := by
    simp [Ideal.ofBits, Ideal.ieee, -EReal.coe_mul]
  rw [h1, h2, h3, Ideal.div_coe (by norm_num), ← EReal.coe_mul, ← EReal.coe_mul, ← EReal.coe_mul]
  congr 1
  norm_num
  ring

theorem loss_eq (X : Vec Ideal Cert.KernelIdeal.S2x16x4096x64 .f32) (M : Vec Ideal Cert.KernelIdeal.S16x512x64 .f32)
    (hx : ∀ y, ∃ r : ℝ, X y = (r : EReal)) (hy : ∀ y, ∃ r : ℝ, M y = (r : EReal)) (p : Fin 2 → Fin 16 → Fin 4096 → Fin 512)
    (hp : ∀ b h l, IsFirst (fun c => dotT (xs X b h) (ms M h) c l) (p b h l)) (j : Cert.ReferenceIdeal.S_.Idx) :
    ((∑ a : Fin 16, ∑ e : Fin 2, pairSum X M a e)
        + ∑ a : Fin 16, ∑ e : Fin 2, ∑ l : Fin 4096, msq (ms M (gH a e)) (p (gB a) (gH a e) l)) * Ideal.ofBits .f32 0x2D51B717#32
      = rLoss X M j := by
  rw [rLoss_at X M p hp j]
  choose a q ha hq hs using fun b h => head_real (xs X b h) (ms M h) (fun _ => hx _) (fun _ => hy _) (p b h) (hp b h)
  have e1 : ∑ a : Fin 16, ∑ e : Fin 2, pairSum X M a e = ((∑ b : Fin 2, ∑ h : Fin 16, a b h : ℝ) : EReal) := by
    refine (sum_heads fun b h => headSum (xs X b h) (ms M h)).trans ?_
    simp only [ha, coe_sum]
  have e2 : ∑ a : Fin 16, ∑ e : Fin 2, ∑ l : Fin 4096, msq (ms M (gH a e)) (p (gB a) (gH a e) l)
      = ((∑ b : Fin 2, ∑ h : Fin 16, q b h : ℝ) : EReal) := by
    refine (sum_heads fun b h => ∑ l : Fin 4096, msq (ms M h) (p b h l)).trans ?_
    simp only [hq, coe_sum]
  have e3 : ∑ b : Fin 2, ∑ h : Fin 16, ∑ l : Fin 4096, sqDist X M b h l (p b h l)
      = ((∑ b : Fin 2, ∑ h : Fin 16, (a b h + q b h) : ℝ) : EReal) := by
    rw [coe_sum]
    refine Finset.sum_congr rfl fun b _ => ?_
    rw [coe_sum]
    exact Finset.sum_congr rfl fun h _ => hs b h
  rw [e1, e2, e3, ← EReal.coe_add, ← Finset.sum_add_distrib]
  simp only [← Finset.sum_add_distrib]
  exact scale _

/-! ## Finite arguments -/

theorem real_of_lt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem finite_args (X : FVec Ideal Cert.Pre_finite.S2x16x4096x64 .f32) (M : FVec Ideal Cert.Pre_finite.S16x512x64 .f32)
    (h : Cert.Pre_finite.fn (F := Ideal) X M = fun _ => 1#1) :
    (∀ y, ∃ r : ℝ, X y = (r : EReal)) ∧ ∀ y, ∃ r : ℝ, M y = (r : EReal) := by
  have hj := congrFun h (fun a => a.elim0)
  have hand : ∀ a b : BitVec 1, IntOp.andi a b = 1#1 → a = 1#1 ∧ b = 1#1 := by decide
  obtain ⟨h1, h2⟩ := hand _ _ hj
  haveI : Subsingleton Cert.Pre_finite.S_.Idx := ⟨fun a b => funext fun k => k.elim0⟩
  exact ⟨fun y => real_of_lt (Host.reduce_andi_all _ _ _ _ _ h1 y), fun y => real_of_lt (Host.reduce_andi_all _ _ _ _ _ h2 y)⟩

end Cert.Proof.Run

end
-- ==== Proof.lean ====
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.KernelRun
public import proofs.«01_k».proof.Proof.KernelSum
public import proofs.«01_k».proof.Proof.RefRun
public import proofs.«01_k».proof.Proof.RefValue
public import proofs.«01_k».proof.Proof.Loss

/-! The kernel's two results are the reference's two results. -/

@[expose] public section

set_option maxRecDepth 16384

noncomputable section

namespace Cert.Proof

open Idealize.ShloMosaic Idealize.ShloMosaic.TcCoe Idealize.SL.Sem
open Cert.Proof.Run

theorem kernel_loss (m : (ℓ : Loc Cert.KernelIdeal.nD Cert.KernelIdeal.τ Cert.KernelIdeal.sig) → Buf (Elt Ideal) ℓ)
    (d : Dev Cert.KernelIdeal.nD) (h : Cert.Pre_finite.fn (F := Ideal) (argX m d) (argM m d) = fun _ => 1#1) :
    W12 m d (Proc.devRef .tc Cert.KernelIdeal.main_v9) = rLoss (argX m d) (argM m d) := by
  obtain ⟨hx, hy⟩ := finite_args _ _ h
  choose p hp using fun (b : Fin 2) (h : Fin 16) (l : Fin 4096) =>
    exists_isFirst (fun c => dotT (xs (argX m d) b h) (ms (argM m d) h) c l)
  funext j
  refine (W12_v9_at m d j).trans ?_
  simp only [fun (a : Fin 16) (e : Fin 2) (l : Fin 4096) => entry_at m d a e l (hp (gB a) (gH a e) l)]
  exact loss_eq (argX m d) (argM m d) hx hy p hp j

theorem kernel_run (m : (ℓ : Loc Cert.KernelIdeal.nD Cert.KernelIdeal.τ Cert.KernelIdeal.sig) → Buf (Elt Ideal) ℓ)
    (g : Dev Cert.KernelIdeal.nD → PrngReg)
    (h : ∀ d, Cert.Pre_finite.fn (F := Ideal) (argX m d) (argM m d) = fun _ => 1#1) :
    θ_run (Cert.KernelIdeal.defs (F := Ideal)) (Cert.KernelIdeal.threads (F := Ideal)) ⟨m, fun _ => 0, g⟩ (fun r =>
      ∀ c : Dev Cert.KernelIdeal.nD,
        r.2.mem ((c.tc : Thread Cert.KernelIdeal.nD Cert.KernelIdeal.τ).loc Cert.KernelIdeal.main_v2_0) = rDists (argX m c) (argM m c)
        ∧ r.2.mem ((c.tc : Thread Cert.KernelIdeal.nD Cert.KernelIdeal.τ).loc Cert.KernelIdeal.main_v9) = rLoss (argX m c) (argM m c)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  θ_run_mono (run_main m g fun d j => hG m d j) fun r hr c =>
    ⟨(hr.1 c _ (mem_uc Cert.KernelIdeal.main_v2_0)).trans ((W12_v2_0 m c).trans (rDists_eq _ _).symm),
      (hr.1 c _ (mem_uc Cert.KernelIdeal.main_v9)).trans (kernel_loss m c (h c)),
      (hr.1 c _ (mem_uc Cert.KernelIdeal.main_arg0)).trans (W12_arg0 m c),
      (hr.1 c _ (mem_uc Cert.KernelIdeal.main_arg1)).trans (W12_arg1 m c)⟩

theorem algebraic : Cert.algebraic_KernelIdeal_ReferenceIdeal_pre_finite := by
  intro m g m' g' hpre hagree
  refine ⟨fun c => rDists (argX m c) (argM m c), fun c => rLoss (argX m c) (argM m c), kernel_run m g hpre, ?_⟩
  refine θ_run_mono (run_ref m' g') fun r hr c => ?_
  have hX : refX m' c = argX m c := (hagree c).1
  have hM : refM m' c = argM m c := (hagree c).2
  have h := hr.1 c
  rw [hX, hM] at h
  exact h

theorem claim : Cert.Claim :=
  ⟨Cert.KernelIdeal.Gen.facts, Cert.ReferenceIdeal.Gen.facts, Cert.Pre_finite.Gen.facts,
    fun m g _ => frame_kernel m g, fun m g _ => frame_kernel m g, frame_ref,
    fun m g _ => frame_ref m g trivial, algebraic⟩

end Cert.Proof

end
